-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.BufferStatement Cert.KernelIdeal.S288x2x3584 Cert.KernelIdeal.S288x1x3584
  ∧ IdealRules.bf16_pair.BufferStatement Cert.KernelIdeal.S1792x2x1024 Cert.KernelIdeal.S1792x1x1024
  ∧ IdealRules.bf16_pair.Statement Cert.KernelIdeal.S128x128 Cert.KernelIdeal.S64x128
  ∧ IdealRules.bf16_pair.Statement Cert.KernelIdeal.S64x2x128 Cert.KernelIdeal.S64x1x128
  ∧ IdealRules.bf16_pair.Statement Cert.KernelIdeal.S64x128 Cert.KernelIdeal.S32x128
  ∧ IdealRules.bf16_pair.Statement Cert.KernelIdeal.S32x2x128 Cert.KernelIdeal.S32x1x128
  ∧ IdealRules.bf16_pair.Statement Cert.KernelIdeal.S288x2x3584 Cert.KernelIdeal.S288x1x3584
  ∧ IdealRules.bf16_pair.Statement Cert.KernelIdeal.S576x3584 Cert.KernelIdeal.S288x3584
  ∧ IdealRules.bf16_pair.Statement Cert.KernelIdeal.S1792x2x256 Cert.KernelIdeal.S1792x1x256
  ∧ IdealRules.bf16_pair.Statement Cert.KernelIdeal.S3584x256 Cert.KernelIdeal.S1792x256
  ∧ IdealRules.bf16_pack.Statement Cert.KernelIdeal.S32x128

def algebraic_KernelIdeal_ReferenceIdeal_on_claimed_pre_finite [hKernelIdeal : Cert.KernelIdeal.Facts] [hReferenceIdeal : Cert.ReferenceIdeal.Facts] [hPre_finite : Cert.Pre_finite.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)) (v2 : (c : Dev Cert.KernelIdeal.nD) → Buf (Elt Ideal) ((c.tc : Thread Cert.KernelIdeal.nD Cert.KernelIdeal.τ).loc Cert.KernelIdeal.main_v13_2)) (v3 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![8, 4096, 512]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v13_0) i = v0 c i)
          ∧ (∀ i : (⟨3, ![8, 64, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v13_1) i = v1 c i)
          ∧ (∀ i : (⟨3, ![8, 4096, 3584]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v13_2) i = v2 c i)
          ∧ (∀ i : (⟨3, ![28, 8, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v13_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![8, 4096, 512]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v15_0) i = v0 c i)
          ∧ (∀ i : (⟨3, ![8, 64, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v15_1) i = v1 c i)
          ∧ (∀ i : (⟨3, ![8, 4096, 3584]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v15_2) i = v2 c i)
          ∧ (∀ i : (⟨3, ![28, 8, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v15_3) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts) (hOn_claimed : Cert.On_claimed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_on_claimed_pre_finite (hKernelIdeal := hKernelIdeal) (hReferenceIdeal := hReferenceIdeal) (hPre_finite := hPre_finite) (hOn_claimed := hOn_claimed)
-- ==== On_claimed.lean ====
abbrev S8x4096x3584 : Shape := ⟨3, ![8, 4096, 3584]⟩
abbrev S576x3584 : Shape := ⟨2, ![576, 3584]⟩
abbrev S5x28 : Shape := ⟨2, ![5, 28]⟩
abbrev S512 : Shape := ⟨1, ![512]⟩
abbrev S8x4096 : Shape := ⟨2, ![8, 4096]⟩
abbrev S_ : Shape := ⟨0, ![]⟩
abbrev S8x4096x512 : Shape := ⟨3, ![8, 4096, 512]⟩
abbrev S8x64x4096 : Shape := ⟨3, ![8, 64, 4096]⟩
abbrev S28x8x4096 : Shape := ⟨3, ![28, 8, 4096]⟩

class Facts : Prop where
  bcast_S_S8x4096x512 : S_.BroadcastsInDim S8x4096x512 (![] : Fin 0 → Fin S8x4096x512.rank)
  bcast_S_S8x4096 : S_.BroadcastsInDim S8x4096 (![] : Fin 0 → Fin S8x4096.rank)
  bcast_S8x4096_S8x64x4096_0_2 : S8x4096.BroadcastsInDim S8x64x4096 (![0, 2] : Fin 2 → Fin S8x64x4096.rank)
  bcast_S_S8x4096x3584 : S_.BroadcastsInDim S8x4096x3584 (![] : Fin 0 → Fin S8x4096x3584.rank)
  bcast_S_S28x8x4096 : S_.BroadcastsInDim S28x8x4096 (![] : Fin 0 → Fin S28x8x4096.rank)

variable [Facts]

def fn {F : FTy → Type} [FloatOps F] (main_arg0 : FVec F S8x4096x3584 .bf16) (main_arg1 : FVec F S576x3584 .fp8e4m3) (main_arg2 : FVec F S5x28 .f32) (main_arg3 : FVec F S512 .bf16) (main_arg4 : IVec S8x4096 32) : IVec S8x4096x512 1 × IVec S8x64x4096 1 × IVec S8x4096x3584 1 × IVec S28x8x4096 1 :=
  let main_c : IVec S_ 1 := constantI S_ 1 1#1
  let main_v0 : IVec S8x4096x512 1 := broadcastInDim S8x4096x512 ![] bcast_S_S8x4096x512 main_c
  let main_c_0 : IVec S_ 32 := constantI S_ 32 0#32
  let main_v1 : IVec S8x4096 32 := broadcastInDim S8x4096 ![] bcast_S_S8x4096 main_c_0
  let main_v2 : IVec S8x4096 1 := cmpi .eq main_arg4 main_v1
  let main_v3 : IVec S8x64x4096 1 := broadcastInDim S8x64x4096 ![0, 2] bcast_S8x4096_S8x64x4096_0_2 main_v2
  let main_c_1 : IVec S_ 1 := constantI S_ 1 1#1
  let main_v4 : IVec S8x4096x3584 1 := broadcastInDim S8x4096x3584 ![] bcast_S_S8x4096x3584 main_c_1
  let main_c_2 : IVec S_ 1 := constantI S_ 1 1#1
  let main_v5 : IVec S28x8x4096 1 := broadcastInDim S28x8x4096 ![] bcast_S_S28x8x4096 main_c_2
  (main_v0, main_v3, main_v4, main_v5)
-- ==== Pre_finite.lean ====
abbrev S8x4096x3584 : Shape := ⟨3, ![8, 4096, 3584]⟩
abbrev S576x3584 : Shape := ⟨2, ![576, 3584]⟩
abbrev S5x28 : Shape := ⟨2, ![5, 28]⟩
abbrev S512 : Shape := ⟨1, ![512]⟩
abbrev S8x4096 : Shape := ⟨2, ![8, 4096]⟩
abbrev S_ : Shape := ⟨0, ![]⟩

class Facts : Prop where
  bcast_S_S8x4096x3584 : S_.BroadcastsInDim S8x4096x3584 (![] : Fin 0 → Fin S8x4096x3584.rank)

variable [Facts]

def fn {F : FTy → Type} [FloatOps F] (main_arg0 : FVec F S8x4096x3584 .bf16) (main_arg1 : FVec F S576x3584 .fp8e4m3) (main_arg2 : FVec F S5x28 .f32) (main_arg3 : FVec F S512 .bf16) (main_arg4 : IVec S8x4096 32) : IVec S8x4096x3584 1 :=
  let main_v0 : FVec F S8x4096x3584 .bf16 := Host.absf main_arg0
  let main_cst : FVec F S_ .bf16 := constant S_ .bf16 0x7F7F#16
  let main_v1 : FVec F S8x4096x3584 .bf16 := broadcastInDim S8x4096x3584 ![] bcast_S_S8x4096x3584 main_cst
  let main_v2 : IVec S8x4096x3584 1 := cmpf .ole main_v0 main_v1
  main_v2
-- ==== Kernel.lean ====
abbrev S8x4096x3584 : Shape := ⟨3, ![8, 4096, 3584]⟩
abbrev S576x3584 : Shape := ⟨2, ![576, 3584]⟩
abbrev S5x28 : Shape := ⟨2, ![5, 28]⟩
abbrev S512 : Shape := ⟨1, ![512]⟩
abbrev S8x4096 : Shape := ⟨2, ![8, 4096]⟩
abbrev S32 : Shape := ⟨1, ![32]⟩
abbrev S_ : Shape := ⟨0, ![]⟩
abbrev S32x1 : Shape := ⟨2, ![32, 1]⟩
abbrev S32x128 : Shape := ⟨2, ![32, 128]⟩
abbrev S1x512 : Shape := ⟨2, ![1, 512]⟩
abbrev S8x4096x512 : Shape := ⟨3, ![8, 4096, 512]⟩
abbrev S8x64x4096 : Shape := ⟨3, ![8, 64, 4096]⟩
abbrev S28x8x4096 : Shape := ⟨3, ![28, 8, 4096]⟩
abbrev S8x128x3584 : Shape := ⟨3, ![8, 128, 3584]⟩
abbrev S8x128 : Shape := ⟨2, ![8, 128]⟩
abbrev S8x128x512 : Shape := ⟨3, ![8, 128, 512]⟩
abbrev S8x64x128 : Shape := ⟨3, ![8, 64, 128]⟩
abbrev S28x8x128 : Shape := ⟨3, ![28, 8, 128]⟩
abbrev S288x3584 : Shape := ⟨2, ![288, 3584]⟩
abbrev S512x128 : Shape := ⟨2, ![512, 128]⟩
abbrev S64x128 : Shape := ⟨2, ![64, 128]⟩
abbrev S1792x1024 : Shape := ⟨2, ![1792, 1024]⟩
abbrev S1x1 : Shape := ⟨2, ![1, 1]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S256x128 : Shape := ⟨2, ![256, 128]⟩
abbrev S1x1x128 : Shape := ⟨3, ![1, 1, 128]⟩
abbrev S1792x256 : Shape := ⟨2, ![1792, 256]⟩
abbrev S3584x256 : Shape := ⟨2, ![3584, 256]⟩
abbrev S576x256 : Shape := ⟨2, ![576, 256]⟩
abbrev S576x128 : Shape := ⟨2, ![576, 128]⟩
abbrev S128x512 : Shape := ⟨2, ![128, 512]⟩
abbrev S1x128x512 : Shape := ⟨3, ![1, 128, 512]⟩
abbrev S1x64x128 : Shape := ⟨3, ![1, 64, 128]⟩

abbrev nBuf : Space → Nat
  | .hbm => 26
  | .vmem => 19
  | .smem => 1
  | _ => 0

abbrev bufTy : (tb : Table) → Fin (tcTables nBuf tb) → BufTy
  | .hbm, ⟨0, _⟩ => ⟨S8x4096x3584, .bf16⟩
  | .hbm, ⟨1, _⟩ => ⟨S576x3584, .fp8e4m3⟩
  | .hbm, ⟨2, _⟩ => ⟨S5x28, .f32⟩
  | .hbm, ⟨3, _⟩ => ⟨S512, .bf16⟩
  | .hbm, ⟨4, _⟩ => ⟨S8x4096, .i32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32x1, .f32⟩
  | .hbm, ⟨20, _⟩ => ⟨S32x128, .f32⟩
  | .hbm, ⟨21, _⟩ => ⟨S1x512, .bf16⟩
  | .hbm, ⟨22, _⟩ => ⟨S8x4096x512, .bf16⟩
  | .hbm, ⟨23, _⟩ => ⟨S8x64x4096, .bf16⟩
  | .hbm, ⟨24, _⟩ => ⟨S8x4096x3584, .fp8e4m3⟩
  | .hbm, ⟨25, _⟩ => ⟨S28x8x4096, .f32⟩
  | .local _ .vmem, ⟨0, _⟩ => ⟨S8x128x3584, .bf16⟩
  | .local _ .vmem, ⟨1, _⟩ => ⟨S8x128x3584, .bf16⟩
  | .local _ .vmem, ⟨2, _⟩ => ⟨S576x3584, .fp8e4m3⟩
  | .local _ .vmem, ⟨3, _⟩ => ⟨S1x512, .bf16⟩
  | .local _ .vmem, ⟨4, _⟩ => ⟨S8x128, .i32⟩
  | .local _ .vmem, ⟨5, _⟩ => ⟨S8x128, .i32⟩
  | .local _ .vmem, ⟨6, _⟩ => ⟨S32x128, .f32⟩
  | .local _ .vmem, ⟨7, _⟩ => ⟨S8x128x512, .bf16⟩
  | .local _ .vmem, ⟨8, _⟩ => ⟨S8x128x512, .bf16⟩
  | .local _ .vmem, ⟨9, _⟩ => ⟨S8x64x128, .bf16⟩
  | .local _ .vmem, ⟨10, _⟩ => ⟨S8x64x128, .bf16⟩
  | .local _ .vmem, ⟨11, _⟩ => ⟨S8x128x3584, .fp8e4m3⟩
  | .local _ .vmem, ⟨12, _⟩ => ⟨S8x128x3584, .fp8e4m3⟩
  | .local _ .vmem, ⟨13, _⟩ => ⟨S28x8x128, .f32⟩
  | .local _ .vmem, ⟨14, _⟩ => ⟨S28x8x128, .f32⟩
  | .local _ .vmem, ⟨15, _⟩ => ⟨S288x3584, .i32⟩
  | .local _ .vmem, ⟨16, _⟩ => ⟨S512x128, .f32⟩
  | .local _ .vmem, ⟨17, _⟩ => ⟨S64x128, .f32⟩
  | .local _ .vmem, ⟨18, _⟩ => ⟨S1792x1024, .i32⟩
  | .local _ .smem, ⟨0, _⟩ => ⟨S5x28, .f32⟩
  | _, _ => ⟨S8x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [BitOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S8x128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S5x28 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x3584 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S28x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
abbrev S288x2x3584 : Shape := ⟨3, ![288, 2, 3584]⟩
abbrev S288x1x3584 : Shape := ⟨3, ![288, 1, 3584]⟩
abbrev S1792x2x1024 : Shape := ⟨3, ![1792, 2, 1024]⟩
abbrev S1792x1x1024 : Shape := ⟨3, ![1792, 1, 1024]⟩
abbrev S64x2x128 : Shape := ⟨3, ![64, 2, 128]⟩
abbrev S64x1x128 : Shape := ⟨3, ![64, 1, 128]⟩
abbrev S32x2x128 : Shape := ⟨3, ![32, 2, 128]⟩
abbrev S32x1x128 : Shape := ⟨3, ![32, 1, 128]⟩
abbrev S1792x2x256 : Shape := ⟨3, ![1792, 2, 256]⟩
abbrev S1792x1x256 : Shape := ⟨3, ![1792, 1, 256]⟩
  | .local _ .vmem, ⟨15, _⟩ => ⟨S288x2x3584, .bf16⟩
  | .local _ .vmem, ⟨18, _⟩ => ⟨S1792x2x1024, .bf16⟩
variable {F : FTy → Type} [FloatOps F]
-- ==== ReferenceIdeal.lean ====
abbrev S8x4096x3584 : Shape := ⟨3, ![8, 4096, 3584]⟩
abbrev S576x3584 : Shape := ⟨2, ![576, 3584]⟩
abbrev S5x28 : Shape := ⟨2, ![5, 28]⟩
abbrev S512 : Shape := ⟨1, ![512]⟩
abbrev S8x4096 : Shape := ⟨2, ![8, 4096]⟩
abbrev S5x128x28 : Shape := ⟨3, ![5, 128, 28]⟩
abbrev S640x28 : Shape := ⟨2, ![640, 28]⟩
abbrev S640x28x128 : Shape := ⟨3, ![640, 28, 128]⟩
abbrev S640x3584 : Shape := ⟨2, ![640, 3584]⟩
abbrev S32 : Shape := ⟨1, ![32]⟩
abbrev S_ : Shape := ⟨0, ![]⟩
abbrev S8x4096x512 : Shape := ⟨3, ![8, 4096, 512]⟩
abbrev S8x64x4096 : Shape := ⟨3, ![8, 64, 4096]⟩
abbrev S28x8x4096 : Shape := ⟨3, ![28, 8, 4096]⟩
abbrev S8x4096x28x128 : Shape := ⟨4, ![8, 4096, 28, 128]⟩
abbrev S8x4096x28 : Shape := ⟨3, ![8, 4096, 28]⟩
abbrev S8x4096x28x253 : Shape := ⟨4, ![8, 4096, 28, 253]⟩
abbrev S8x4096x28x1 : Shape := ⟨4, ![8, 4096, 28, 1]⟩
abbrev S32768x3584 : Shape := ⟨2, ![32768, 3584]⟩
abbrev S32768x576 : Shape := ⟨2, ![32768, 576]⟩
abbrev S8x4096x576 : Shape := ⟨3, ![8, 4096, 576]⟩
abbrev S8x4096x1 : Shape := ⟨3, ![8, 4096, 1]⟩
abbrev S1x1x512 : Shape := ⟨3, ![1, 1, 512]⟩
abbrev S1x1x32 : Shape := ⟨3, ![1, 1, 32]⟩
abbrev S8x4096x32 : Shape := ⟨3, ![8, 4096, 32]⟩
abbrev S8x4096x64 : Shape := ⟨3, ![8, 4096, 64]⟩
abbrev S8x4096x32x2 : Shape := ⟨4, ![8, 4096, 32, 2]⟩
abbrev S8x4096x32x1 : Shape := ⟨4, ![8, 4096, 32, 1]⟩

abbrev nBuf : Space → Nat
  | .hbm => 28
  | .vmem => 10
  | .smem => 0
  | _ => 0

abbrev bufTy : (tb : Table) → Fin (tcTables nBuf tb) → BufTy
  | .hbm, ⟨0, _⟩ => ⟨S8x4096x3584, .bf16⟩
  | .hbm, ⟨1, _⟩ => ⟨S576x3584, .fp8e4m3⟩
  | .hbm, ⟨2, _⟩ => ⟨S5x28, .f32⟩
  | .hbm, ⟨3, _⟩ => ⟨S512, .bf16⟩
  | .hbm, ⟨4, _⟩ => ⟨S8x4096, .i32⟩
  | .hbm, ⟨5, _⟩ => ⟨S5x128x28, .f32⟩
  | .hbm, ⟨6, _⟩ => ⟨S640x28, .f32⟩
  | .hbm, ⟨7, _⟩ => ⟨S640x28x128, .f32⟩
  | .hbm, ⟨8, _⟩ => ⟨S640x3584, .f32⟩
  | .hbm, ⟨9, _⟩ => ⟨S576x3584, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S8x4096x512, .bf16⟩
  | .hbm, ⟨25, _⟩ => ⟨S8x64x4096, .bf16⟩
  | .hbm, ⟨26, _⟩ => ⟨S8x4096x3584, .fp8e4m3⟩
  | .hbm, ⟨27, _⟩ => ⟨S28x8x4096, .f32⟩
  | .local _ .vmem, ⟨0, _⟩ => ⟨S8x4096x3584, .bf16⟩
  | .local _ .vmem, ⟨1, _⟩ => ⟨S576x3584, .fp8e4m3⟩
  | .local _ .vmem, ⟨2, _⟩ => ⟨S576x3584, .f32⟩
  | .local _ .vmem, ⟨3, _⟩ => ⟨S512, .bf16⟩
  | .local _ .vmem, ⟨4, _⟩ => ⟨S8x4096, .i32⟩
  | .local _ .vmem, ⟨5, _⟩ => ⟨S32, .f32⟩
  | .local _ .vmem, ⟨6, _⟩ => ⟨S8x4096x512, .bf16⟩
  | .local _ .vmem, ⟨7, _⟩ => ⟨S8x64x4096, .bf16⟩
  | .local _ .vmem, ⟨8, _⟩ => ⟨S8x4096x3584, .fp8e4m3⟩
  | .local _ .vmem, ⟨9, _⟩ => ⟨S28x8x4096, .f32⟩
  | _, _ => ⟨S8x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8x4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S576x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x4096x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x64x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x4096x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S28x8x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Stores.lean ====
import proofs.«01_k».proof.Proof.Gen.KernelIdeal.Frame

/-!
What the kernel stores, as families.

The frame lists the stores of a grid point one by one, the last one first. Here every list is written as one family over
the tile number: the payload of tile `p = 28 b + j` (batch `b`, group `j` of 128 channels) is the payload of the first
tile at the block of `x` that the tile loads. The equations hold by unfolding.
-/

set_option maxRecDepth 16384

noncomputable section

namespace Cert.KernelIdeal.Stores

open Idealize.ShloMosaic Idealize.ShloMosaic.TcCoe Idealize.SL.Sem Cert.KernelIdeal.Gen

variable {F : FTy → Type} [FloatOps F]

/-- Where tile `p` of the scales is stored. -/
def offS (p : ℕ) : Fin 3 → ℕ := ![p % 28, p / 28 % 8, 0]

theorem inbS (p : ℕ) : ∀ a, offS p a + (![1, 1, 128] : Fin 3 → ℕ) a ≤ S28x8x128.size a := by
  intro a; fin_cases a
  · show p % 28 + 1 ≤ 28; omega
  · show p / 28 % 8 + 1 ≤ 8; omega
  · show 0 + 128 ≤ 128; omega

/-- Where tile `p` of `x` is loaded and tile `p` of the codes is stored. -/
def offX (p : ℕ) : Fin 3 → ℕ := ![p / 28 % 8, 0, 128 * (p % 28)]

theorem inbX (p : ℕ) : ∀ a, offX p a + (![1, 128, 128] : Fin 3 → ℕ) a ≤ S8x128x3584.size a := by
  intro a; fin_cases a
  · show p / 28 % 8 + 1 ≤ 8; omega
  · show 0 + 128 ≤ 128; omega
  · show 128 * (p % 28) + 128 ≤ 3584; omega

/-- Where tile `p` of the dequantised codes is stored in the buffer of pairs. -/
def offD (p : ℕ) : Fin 3 → ℕ := ![64 * (p % 28), 0, 128 * (p / 28 % 8)]

theorem inbD (p : ℕ) : ∀ a, offD p a + (![64, 2, 128] : Fin 3 → ℕ) a ≤ S1792x2x1024.size a := by
  intro a; fin_cases a
  · show 64 * (p % 28) + 64 ≤ 1792; omega
  · show 0 + 2 ≤ 2; omega
  · show 128 * (p / 28 % 8) + 128 ≤ 1024; omega

/-- The first index of the batch `b` of a result of eight batches. -/
def offB (b : ℕ) : Fin 3 → ℕ := ![b % 8, 0, 0]

theorem inbC (b : ℕ) : ∀ a, offB b a + (![1, 128, 512] : Fin 3 → ℕ) a ≤ S8x128x512.size a := by
  intro a; fin_cases a
  · show b % 8 + 1 ≤ 8; omega
  · show 0 + 128 ≤ 128; omega
  · show 0 + 512 ≤ 512; omega

theorem inbK (b : ℕ) : ∀ a, offB b a + (![1, 64, 128] : Fin 3 → ℕ) a ≤ S8x64x128.size a := by
  intro a; fin_cases a
  · show b % 8 + 1 ≤ 8; omega
  · show 0 + 64 ≤ 64; omega
  · show 0 + 128 ≤ 128; omega

/-- The columns of the dequantised codes that the pair `q` of batches loads. -/
def offQ (q : ℕ) : Fin 3 → ℕ := ![0, 0, 256 * (q % 4)]

theorem inbQ (q : ℕ) : ∀ a, offQ q a + (![1792, 2, 256] : Fin 3 → ℕ) a ≤ S1792x2x1024.size a := by
  intro a; fin_cases a
  · show 0 + 1792 ≤ 1792; omega
  · show 0 + 2 ≤ 2; omega
  · show 256 * (q % 4) + 256 ≤ 1024; omega

/-- The row of the positions that the batch `b` loads. -/
def offP (b : ℕ) : Fin 2 → ℕ := ![b % 8, 0]

theorem inbP (b : ℕ) : ∀ a, offP b a + (![1, 128] : Fin 2 → ℕ) a ≤ S8x128.size a := by
  intro a; fin_cases a
  · show b % 8 + 1 ≤ 8; omega
  · show 0 + 128 ≤ 128; omega

/-- Where the 128 rows `r` of the weights, group `j`, are stored in the buffer of pairs. -/
def offW (r j : ℕ) : Fin 3 → ℕ := ![64 * (r % 5), 0, 128 * (j % 28)]

theorem inbW (r j : ℕ) (h : r < 4) : ∀ a, offW r j a + (![64, 2, 128] : Fin 3 → ℕ) a ≤ S288x2x3584.size a := by
  intro a; fin_cases a
  · show 64 * (r % 5) + 64 ≤ 288; omega
  · show 0 + 2 ≤ 2; omega
  · show 128 * (j % 28) + 128 ≤ 3584; omega

theorem inbV (j : ℕ) : ∀ a, offW 4 j a + (![32, 2, 128] : Fin 3 → ℕ) a ≤ S288x2x3584.size a := by
  intro a; fin_cases a
  · show 64 * (4 % 5) + 32 ≤ 288; omega
  · show 0 + 2 ≤ 2; omega
  · show 128 * (j % 28) + 128 ≤ 3584; omega

/-- Where the weights are loaded. -/
def offL (r j : ℕ) : Fin 2 → ℕ := ![128 * (r % 5), 128 * (j % 28)]

theorem inbL (r j : ℕ) (h : r < 4) : ∀ a, offL r j a + (![128, 128] : Fin 2 → ℕ) a ≤ S576x3584.size a := by
  intro a; fin_cases a
  · show 128 * (r % 5) + 128 ≤ 576; omega
  · show 128 * (j % 28) + 128 ≤ 3584; omega

theorem inbR (j : ℕ) : ∀ a, offL 4 j a + (![64, 128] : Fin 2 → ℕ) a ≤ S576x3584.size a := by
  intro a; fin_cases a
  · show 128 * (4 % 5) + 64 ≤ 576; omega
  · show 128 * (j % 28) + 128 ≤ 3584; omega

/-- Where the scale of a block of weights is loaded. -/
def offG (r j : ℕ) : Fin 2 → ℕ := ![r % 5, j % 28]

theorem inbG (r j : ℕ) : ∀ a, offG r j a + (![1, 1] : Fin 2 → ℕ) a ≤ S5x28.size a := by
  intro a; fin_cases a
  · show r % 5 + 1 ≤ 5; omega
  · show j % 28 + 1 ≤ 28; omega

/-- Tile `p` of `x`. -/
def xt (arg1 : Memref sig .tc .vmem S8x128x3584 .bf16) (harg1 : arg1.IsWhole) (x0 : Vec F S8x128x3584 .bf16) (p : ℕ) :
    Vec F S1x128x128 .bf16 :=
  arg1.view.readAt (Elt F) (Rect.unit (s := S8x128x3584) (offX p) ![1, 128, 128] (inbX p)).toLoadRect (harg1.unread x0)

/-- The scale of the weights' block `(r, j)`. -/
def ws (arg3 : Memref sig .tc .smem S5x28 .f32) (harg3 : arg3.IsWhole) (x2 : Vec F S5x28 .f32) (r j : ℕ) : Elt F .f32 :=
  (arg3.view.readAt (Elt F) (Rect.unit (s := S5x28) (offG r j) S1x1.size (inbG r j)).toLoadRect (harg3.unread x2) :
    Vec F S1x1 .f32) (Shape.Idx.first (by decide : 0 < S1x1.numel))

/-- The weights' block `(r, j)`. -/
def wt (arg2 : Memref sig .tc .vmem S576x3584 .fp8e4m3) (harg2 : arg2.IsWhole) (x1 : Vec F S576x3584 .fp8e4m3) (r j : ℕ)
    (h : r < 4) : Vec F S128x128 .fp8e4m3 :=
  arg2.view.readAt (Elt F) (Rect.unit (s := S576x3584) (offL r j) ![128, 128] (inbL r j h)).toLoadRect (harg2.unread x1)

/-- The last 64 rows of the weights, group `j`. -/
def wr (arg2 : Memref sig .tc .vmem S576x3584 .fp8e4m3) (harg2 : arg2.IsWhole) (x1 : Vec F S576x3584 .fp8e4m3) (j : ℕ) :
    Vec F S64x128 .fp8e4m3 :=
  arg2.view.readAt (Elt F) (Rect.unit (s := S576x3584) (offL 4 j) ![64, 128] (inbR j)).toLoadRect (harg2.unread x1)

/-- What the scratch of 64 rows has been given up to group `j`. -/
def tPieces (arg2 : Memref sig .tc .vmem S576x3584 .fp8e4m3) (harg2 : arg2.IsWhole)
    (arg3 : Memref sig .tc .smem S5x28 .f32) (harg3 : arg3.IsWhole)
    (x1 : Vec F S576x3584 .fp8e4m3) (x2 : Vec F S5x28 .f32) : ℕ → List (View.Piece (Elt F) S64x128 .f32)
  | 0 => [⟨Rect.unit ![0, 0] S64x128.size inb_S64x128_S64x128_0_0, k0_pay9 (ws arg3 harg3 x2 4 0) (wr arg2 harg2 x1 0)⟩]
  | j + 1 => ⟨Rect.unit ![0, 0] S64x128.size inb_S64x128_S64x128_0_0,
      k0_pay9 (ws arg3 harg3 x2 4 (j + 1)) (wr arg2 harg2 x1 (j + 1))⟩ :: tPieces arg2 harg2 arg3 harg3 x1 x2 j

/-- The rows of one parity of that scratch. -/
def tRows (arg2 : Memref sig .tc .vmem S576x3584 .fp8e4m3) (harg2 : arg2.IsWhole)
    (arg3 : Memref sig .tc .smem S5x28 .f32) (harg3 : arg3.IsWhole) (arg13 : Memref sig .tc .vmem S64x128 .f32)
    (x1 : Vec F S576x3584 .fp8e4m3) (x2 : Vec F S5x28 .f32) (j : ℕ) (off : Fin 2 → ℕ)
    (inb : ∀ a, S32x128.size a = 0 ∨ off a + (![2, 1] : Fin 2 → ℕ) a * (S32x128.size a - 1) < S64x128.size a) : Vec F S32x128 .f32 :=
  arg13.view.readCov (tPieces arg2 harg2 arg3 harg3 x1 x2 j) { off := off, size := S32x128.size, stride := ![2, 1], inb := inb }

/-- The stores of the weights' buffer. -/
def wPieces (arg2 : Memref sig .tc .vmem S576x3584 .fp8e4m3) (harg2 : arg2.IsWhole)
    (arg3 : Memref sig .tc .smem S5x28 .f32) (harg3 : arg3.IsWhole) (arg13 : Memref sig .tc .vmem S64x128 .f32)
    (x1 : Vec F S576x3584 .fp8e4m3) (x2 : Vec F S5x28 .f32) : List (View.Piece (Elt F) S288x2x3584 .bf16) :=
  (List.ofFn fun k : Fin 28 =>
    [(⟨Rect.unit (s := S288x2x3584) (offW 4 (27 - k)) ![32, 2, 128] (inbV (27 - k)),
        k0_pay13
          (k0_pay11 (tRows arg2 harg2 arg3 harg3 arg13 x1 x2 (27 - k) ![0, 0] inb_S64x128_S32x128_0_0_s_2_1)
            (tRows arg2 harg2 arg3 harg3 arg13 x1 x2 (27 - k) ![1, 0] inb_S64x128_S32x128_1_0_s_2_1))
          (k0_pay12 (tRows arg2 harg2 arg3 harg3 arg13 x1 x2 (27 - k) ![0, 0] inb_S64x128_S32x128_0_0_s_2_1)
            (tRows arg2 harg2 arg3 harg3 arg13 x1 x2 (27 - k) ![1, 0] inb_S64x128_S32x128_1_0_s_2_1))⟩ :
        View.Piece (Elt F) S288x2x3584 .bf16),
      ⟨Rect.unit (s := S288x2x3584) (offW 3 (27 - k)) ![64, 2, 128] (inbW 3 (27 - k) (by decide)),
        k0_pay2 (ws arg3 harg3 x2 3 (27 - k)) (wt arg2 harg2 x1 3 (27 - k) (by decide))⟩,
      ⟨Rect.unit (s := S288x2x3584) (offW 2 (27 - k)) ![64, 2, 128] (inbW 2 (27 - k) (by decide)),
        k0_pay2 (ws arg3 harg3 x2 2 (27 - k)) (wt arg2 harg2 x1 2 (27 - k) (by decide))⟩,
      ⟨Rect.unit (s := S288x2x3584) (offW 1 (27 - k)) ![64, 2, 128] (inbW 1 (27 - k) (by decide)),
        k0_pay2 (ws arg3 harg3 x2 1 (27 - k)) (wt arg2 harg2 x1 1 (27 - k) (by decide))⟩,
      ⟨Rect.unit (s := S288x2x3584) (offW 0 (27 - k)) ![64, 2, 128] (inbW 0 (27 - k) (by decide)),
        k0_pay2 (ws arg3 harg3 x2 0 (27 - k)) (wt arg2 harg2 x1 0 (27 - k) (by decide))⟩]).flatten

/-- The stores of the buffer of `gamma`. -/
def gPieces (arg4 : Memref sig .tc .vmem S1x512 .bf16) (harg4 : arg4.IsWhole) (x3 : Vec F S1x512 .bf16) :
    List (View.Piece (Elt F) S512x128 .f32) :=
  have v : Vec F S1x512 .bf16 :=
    arg4.view.readAt (Elt F) (Rect.unit ![0, 0] S1x512.size inb_S1x512_S1x512_0_0).toLoadRect (harg4.unread x3)
  [⟨Rect.unit ![384, 0] S128x128.size inb_S512x128_S128x128_384_0, k0_pay284 (k0_pay279 v)⟩,
    ⟨Rect.unit ![256, 0] S128x128.size inb_S512x128_S128x128_256_0, k0_pay283 (k0_pay279 v)⟩,
    ⟨Rect.unit ![128, 0] S128x128.size inb_S512x128_S128x128_128_0, k0_pay282 (k0_pay281 v)⟩,
    ⟨Rect.unit ![0, 0] S128x128.size inb_S512x128_S128x128_0_0, k0_pay280 v⟩]

/-- The stores of the scales. -/
def sPieces (arg1 : Memref sig .tc .vmem S8x128x3584 .bf16) (harg1 : arg1.IsWhole) (x0 : Vec F S8x128x3584 .bf16) :
    List (View.Piece (Elt F) S28x8x128 .f32) :=
  List.ofFn fun k : Fin 224 => (⟨Rect.unit (s := S28x8x128) (offS (223 - k)) ![1, 1, 128] (inbS _),
    k0_pay289 (k0_pay287 (xt arg1 harg1 x0 (223 - k)))⟩ : View.Piece (Elt F) S28x8x128 .f32)

/-- The stores of the codes. -/
def cPieces (arg1 : Memref sig .tc .vmem S8x128x3584 .bf16) (harg1 : arg1.IsWhole) (x0 : Vec F S8x128x3584 .bf16) :
    List (View.Piece (Elt F) S8x128x3584 .fp8e4m3) :=
  List.ofFn fun k : Fin 224 => (⟨Rect.unit (s := S8x128x3584) (offX (223 - k)) ![1, 128, 128] (inbX _),
    k0_pay292 (k0_pay285 (xt arg1 harg1 x0 (223 - k))) (k0_pay288 (xt arg1 harg1 x0 (223 - k)))⟩ :
      View.Piece (Elt F) S8x128x3584 .fp8e4m3)

/-- The stores of the dequantised codes. -/
def dPieces (arg1 : Memref sig .tc .vmem S8x128x3584 .bf16) (harg1 : arg1.IsWhole) (x0 : Vec F S8x128x3584 .bf16) :
    List (View.Piece (Elt F) S1792x2x1024 .bf16) :=
  List.ofFn fun k : Fin 224 => (⟨Rect.unit (s := S1792x2x1024) (offD (223 - k)) ![64, 2, 128] (inbD _),
    k0_pay291 (k0_pay285 (xt arg1 harg1 x0 (223 - k))) (k0_pay287 (xt arg1 harg1 x0 (223 - k)))
      (k0_pay288 (xt arg1 harg1 x0 (223 - k)))⟩ : View.Piece (Elt F) S1792x2x1024 .bf16)

/-- The dequantised codes of the pair `q` of batches. -/
def dq (arg1 : Memref sig .tc .vmem S8x128x3584 .bf16) (harg1 : arg1.IsWhole)
    (arg14 : Memref sig .tc .vmem S1792x2x1024 .bf16) (x0 : Vec F S8x128x3584 .bf16) (q : ℕ) : Vec F S1792x2x256 .bf16 :=
  arg14.view.readCov (dPieces arg1 harg1 x0) (Rect.unit (s := S1792x2x1024) (offQ q) ![1792, 2, 256] (inbQ q)).toLoadRect

/-- The product of a batch: the half of its pair's product that is its own. -/
def prod (w : Vec F S288x2x3584 .bf16) (d : Vec F S1792x2x256 .bf16) (b : ℕ) : FVec F S576x128 .f32 :=
  if b % 2 = 0 then k0_pay2351 w d else k0_pay2363 (k0_pay2350 w d)

/-- The normalised rows of a batch. -/
def norm (w : Vec F S288x2x3584 .bf16) (d : Vec F S1792x2x256 .bf16) (g : Vec F S512x128 .f32) (b : ℕ) :
    FVec F S1x128x512 .bf16 :=
  k0_pay2364 (prod w d b) g

/-- The rotated rows of a batch. -/
def rope (w : Vec F S288x2x3584 .bf16) (d : Vec F S1792x2x256 .bf16) (p : Vec F S1x128 .i32) (f : Vec F S32x128 .f32) (b : ℕ) :
    FVec F S1x64x128 .bf16 :=
  k0_pay2362 (prod w d b) (k0_pay2354 p f) (k0_pay2357 p f) (k0_pay2358 p f) (k0_pay2359 p f) (k0_pay2360 p f) k0_pay2361

/-- The positions of a batch. -/
def pos (arg5 : Memref sig .tc .vmem S8x128 .i32) (harg5 : arg5.IsWhole) (x4 : Vec F S8x128 .i32) (b : ℕ) : Vec F S1x128 .i32 :=
  arg5.view.readAt (Elt F) (Rect.unit (s := S8x128) (offP b) ![1, 128] (inbP b)).toLoadRect (harg5.unread x4)

/-- The frequencies. -/
def freq (arg6 : Memref sig .tc .vmem S32x128 .f32) (harg6 : arg6.IsWhole) (x5 : Vec F S32x128 .f32) : Vec F S32x128 .f32 :=
  arg6.view.readAt (Elt F) (Rect.unit ![0, 0] S32x128.size inb_S32x128_S32x128_0_0).toLoadRect (harg6.unread x5)

/-- The stores of the normalised rows. -/
def nPieces (arg1 : Memref sig .tc .vmem S8x128x3584 .bf16) (harg1 : arg1.IsWhole)
    (arg14 : Memref sig .tc .vmem S1792x2x1024 .bf16) (x0 : Vec F S8x128x3584 .bf16)
    (w : Vec F S288x2x3584 .bf16) (g : Vec F S512x128 .f32) : List (View.Piece (Elt F) S8x128x512 .bf16) :=
  List.ofFn fun k : Fin 8 => (⟨Rect.unit (s := S8x128x512) (offB (7 - k)) ![1, 128, 512] (inbC _),
    norm w (dq arg1 harg1 arg14 x0 ((7 - k) / 2)) g (7 - k)⟩ : View.Piece (Elt F) S8x128x512 .bf16)

/-- The stores of the rotated rows. -/
def kPieces (arg1 : Memref sig .tc .vmem S8x128x3584 .bf16) (harg1 : arg1.IsWhole)
    (arg5 : Memref sig .tc .vmem S8x128 .i32) (harg5 : arg5.IsWhole) (arg6 : Memref sig .tc .vmem S32x128 .f32) (harg6 : arg6.IsWhole)
    (arg14 : Memref sig .tc .vmem S1792x2x1024 .bf16) (x0 : Vec F S8x128x3584 .bf16) (x4 : Vec F S8x128 .i32)
    (x5 : Vec F S32x128 .f32) (w : Vec F S288x2x3584 .bf16) : List (View.Piece (Elt F) S8x64x128 .bf16) :=
  List.ofFn fun k : Fin 8 => (⟨Rect.unit (s := S8x64x128) (offB (7 - k)) ![1, 64, 128] (inbK _),
    rope w (dq arg1 harg1 arg14 x0 ((7 - k) / 2)) (pos arg5 harg5 x4 (7 - k)) (freq arg6 harg6 x5) (7 - k)⟩ :
      View.Piece (Elt F) S8x64x128 .bf16)

/-- The scales, first point. -/
theorem stores9_A (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.1 = sPieces arg1 harg1 x0 := by
  sl_kernel_rfl

/-- The codes, first point. -/
theorem stores8_A (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.1 = cPieces arg1 harg1 x0 := by
  sl_kernel_rfl

/-- The normalised rows, first point. -/
theorem stores6_A (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).1 =
      nPieces arg1 harg1 arg14 x0 (arg11.view.readCov (wPieces arg2 harg2 arg3 harg3 arg13 x1 x2) (Rect.unit ![0, 0, 0] S288x2x3584.size inb_S288x2x3584_S288x2x3584_0_0_0).toLoadRect)
        (arg12.view.readCov (gPieces arg4 harg4 x3) (Rect.unit ![0, 0] S512x128.size inb_S512x128_S512x128_0_0).toLoadRect) := by
  sl_kernel_rfl

/-- The rotated rows, first point. -/
theorem stores7_A (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.1 =
      kPieces arg1 harg1 arg5 harg5 arg6 harg6 arg14 x0 x4 x5
        (arg11.view.readCov (wPieces arg2 harg2 arg3 harg3 arg13 x1 x2) (Rect.unit ![0, 0, 0] S288x2x3584.size inb_S288x2x3584_S288x2x3584_0_0_0).toLoadRect) := by
  sl_kernel_rfl

/-- The scales, later points. -/
theorem stores9_B (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : ¬cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) (xs0 : Vec F S288x2x3584 .bf16) (xs1 : Vec F S512x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1).2.2.2.1 = sPieces arg1 harg1 x0 := by
  sl_kernel_rfl

/-- The codes, later points. -/
theorem stores8_B (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : ¬cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) (xs0 : Vec F S288x2x3584 .bf16) (xs1 : Vec F S512x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1).2.2.1 = cPieces arg1 harg1 x0 := by
  sl_kernel_rfl

/-- The normalised rows, later points. -/
theorem stores6_B (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : ¬cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) (xs0 : Vec F S288x2x3584 .bf16) (xs1 : Vec F S512x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1).1 =
      nPieces arg1 harg1 arg14 x0 (arg11.view.readAt (Elt F) (Rect.unit ![0, 0, 0] S288x2x3584.size inb_S288x2x3584_S288x2x3584_0_0_0).toLoadRect (harg11.unread xs0))
        (arg12.view.readAt (Elt F) (Rect.unit ![0, 0] S512x128.size inb_S512x128_S512x128_0_0).toLoadRect (harg12.unread xs1)) := by
  sl_kernel_rfl

/-- The rotated rows, later points. -/
theorem stores7_B (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : ¬cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) (xs0 : Vec F S288x2x3584 .bf16) (xs1 : Vec F S512x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 xs0 xs1).2.1 =
      kPieces arg1 harg1 arg5 harg5 arg6 harg6 arg14 x0 x4 x5
        (arg11.view.readAt (Elt F) (Rect.unit ![0, 0, 0] S288x2x3584.size inb_S288x2x3584_S288x2x3584_0_0_0).toLoadRect (harg11.unread xs0)) := by
  sl_kernel_rfl

/-- The weights, first point. -/
theorem storesW_A (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.1 = wPieces arg2 harg2 arg3 harg3 arg13 x1 x2 := by
  sl_kernel_rfl

/-- The buffer of `gamma`, first point. -/
theorem storesG_A (c : Dev nD) (i : grid0.Coords) (arg1 : Memref sig .tc .vmem S8x128x3584 .bf16) (harg1 : arg1.IsWhole) (arg2 : Memref sig .tc .vmem S576x3584 .fp8e4m3) (harg2 : arg2.IsWhole) (arg3 : Memref sig .tc .smem S5x28 .f32) (harg3 : arg3.IsWhole) (arg4 : Memref sig .tc .vmem S1x512 .bf16) (harg4 : arg4.IsWhole) (arg5 : Memref sig .tc .vmem S8x128 .i32) (harg5 : arg5.IsWhole) (arg6 : Memref sig .tc .vmem S32x128 .f32) (harg6 : arg6.IsWhole) (arg7 : Memref sig .tc .vmem S8x128x512 .bf16) (harg7 : arg7.IsWhole) (arg8 : Memref sig .tc .vmem S8x64x128 .bf16) (harg8 : arg8.IsWhole) (arg9 : Memref sig .tc .vmem S8x128x3584 .fp8e4m3) (harg9 : arg9.IsWhole) (arg10 : Memref sig .tc .vmem S28x8x128 .f32) (harg10 : arg10.IsWhole) (arg11 : Memref sig .tc .vmem S288x2x3584 .bf16) (harg11 : arg11.IsWhole) (arg12 : Memref sig .tc .vmem S512x128 .f32) (harg12 : arg12.IsWhole) (arg13 : Memref sig .tc .vmem S64x128 .f32) (harg13 : arg13.IsWhole) (arg14 : Memref sig .tc .vmem S1792x2x1024 .bf16) (harg14 : arg14.IsWhole) (hc0 : cond0_0 i)
    (x0 : Vec F S8x128x3584 .bf16) (x1 : Vec F S576x3584 .fp8e4m3) (x2 : Vec F S5x28 .f32) (x3 : Vec F S1x512 .bf16) (x4 : Vec F S8x128 .i32) (x5 : Vec F S32x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5).2.2.2.2.2.1 = gPieces arg4 harg4 x3 := by
  sl_kernel_rfl

end Cert.KernelIdeal.Stores
-- ==== Proof.Scale.lean ====
import Idealize.ShloMosaic.Lib.Pointwise

/-!
# The scale of a group of channels

The kernel finds the scale of a group from the exponent `c` of `t = amax / 448`: it counts the words `k <<< 23` whose
value does not exceed `t`, and writes the scale down as a word. The reference takes the least power of two above `t`.
This file shows that the two agree whenever `0 ≤ t < 2 ^ 126`.
-/

set_option maxRecDepth 16384

noncomputable section

namespace Cert.Scale

open Idealize.ShloMosaic

/-- The real power of two, as an ideal number. -/
def p2 (n : ℤ) : EReal := (((2 : ℝ) ^ n : ℝ) : EReal)

theorem p2_lt {a b : ℤ} : p2 a < p2 b ↔ a < b := by
  unfold p2
  rw [EReal.coe_lt_coe_iff]
  exact zpow_lt_zpow_iff_right₀ (by norm_num)

theorem p2_le {a b : ℤ} : p2 a ≤ p2 b ↔ a ≤ b := by
  unfold p2
  rw [EReal.coe_le_coe_iff]
  exact zpow_le_zpow_iff_right₀ (by norm_num)

theorem p2_pos (a : ℤ) : 0 < p2 a := by
  unfold p2
  exact_mod_cast zpow_pos (by norm_num : (0 : ℝ) < 2) a

/-- The value of the word with exponent field `k`, sign and fraction zero. -/
theorem value_pow (b : BitVec 32) (k : ℕ) (h0 : 0 < k) (h1 : k < 255) (hn : (b.extractLsb' 31 1 == 1#1) = false)
    (he : (b.extractLsb' 23 8).toNat = k) (hf : (b.extractLsb' 0 23).toNat = 0) :
    Ideal.ofBits .f32 b = p2 ((k : ℤ) - 127) := by
  show Ideal.ieee 8 23 b = _
  unfold Ideal.ieee p2
  simp only [show 8 + 23 = 31 from rfl, hn, he, hf]
  rw [if_neg (by omega), if_neg (by omega)]
  congr 1
  rw [if_neg (by simp), one_mul]
  have : (((2 ^ 23 + 0 : ℕ)) : ℝ) = (2 : ℝ) ^ (23 : ℤ) := by norm_num
  rw [this, ← zpow_add₀ (by norm_num)]
  congr 1
  norm_num

/-- The word `k <<< 23`. -/
def powWord (k : ℕ) : BitVec 32 := IntOp.shli .vector (BitVec.ofNat 32 k) 23#32

theorem powWord_fields : ∀ k : Fin 256, ((powWord k).extractLsb' 31 1 == 1#1) = false ∧
    ((powWord k).extractLsb' 23 8).toNat = k ∧ ((powWord k).extractLsb' 0 23).toNat = 0 := by
  decide +kernel

/-- What `powWord k` is worth. -/
def powVal (k : ℕ) : EReal := Ideal.ofBits .f32 (powWord k)

theorem powVal_mid (k : ℕ) (h0 : 0 < k) (h1 : k < 255) : powVal k = p2 ((k : ℤ) - 127) := by
  obtain ⟨hn, he, hf⟩ := powWord_fields ⟨k, by omega⟩
  exact value_pow _ k h0 h1 hn he hf

theorem powVal_zero : powVal 0 = 0 := by
  obtain ⟨hn, he, hf⟩ := powWord_fields 0
  show Ideal.ieee 8 23 (powWord 0) = 0
  unfold Ideal.ieee
  simp only [Fin.val_zero] at hn he hf
  simp only [show 8 + 23 = 31 from rfl, hn, he, hf]
  norm_num

theorem powVal_last : powVal 255 = ⊤ := by
  obtain ⟨hn, he, hf⟩ := powWord_fields 255
  show Ideal.ieee 8 23 (powWord 255) = ⊤
  simp only [show ((255 : Fin 256) : ℕ) = 255 from rfl] at hn he hf
  unfold Ideal.ieee
  simp only [show 8 + 23 = 31 from rfl, hn, he, hf]
  norm_num

/-- The binade of `t`: the numbers between two neighbouring values of `powVal`. -/
structure Binade (t : EReal) (c : ℕ) : Prop where
  lt : c < 253
  low : powVal c ≤ t
  high : t < powVal (c + 1)

theorem exists_binade (t : EReal) (h0 : 0 ≤ t) (h1 : t < p2 126) : ∃ c, Binade t c := by
  classical
  have hz : powVal 0 ≤ t := by rw [powVal_zero]; exact h0
  have hg : powVal (Nat.findGreatest (fun k => powVal k ≤ t) 252) ≤ t :=
    Nat.findGreatest_spec (P := fun k => powVal k ≤ t) (Nat.zero_le 252) hz
  have hle := Nat.findGreatest_le (P := fun k => powVal k ≤ t) 252
  refine ⟨Nat.findGreatest (fun k => powVal k ≤ t) 252, by omega, hg, ?_⟩
  by_cases h : Nat.findGreatest (fun k => powVal k ≤ t) 252 = 252
  · rw [h]
    rw [powVal_mid _ (by omega) (by omega)]
    simpa using h1
  · have := Nat.findGreatest_is_greatest (P := fun k => powVal k ≤ t) (n := 252)
      (Nat.lt_succ_self (Nat.findGreatest (fun k => powVal k ≤ t) 252)) (by omega)
    exact not_le.mp this

/-- Within a binade the words not above `t` are the first `c + 1`. -/
theorem Binade.lt_iff {t : EReal} {c : ℕ} (h : Binade t c) (k : ℕ) (hk : k < 256) : t < powVal k ↔ c < k := by
  have hc := h.lt
  constructor
  · intro hlt
    by_contra hck
    have hkc : powVal k ≤ powVal c := by
      rcases Nat.eq_zero_or_pos k with rfl | hk0
      · rw [powVal_zero]
        rcases Nat.eq_zero_or_pos c with rfl | hc0
        · rw [powVal_zero]
        · rw [powVal_mid c hc0 (by omega)]; exact (p2_pos _).le
      · rw [powVal_mid k hk0 (by omega), powVal_mid c (by omega) (by omega), p2_le]; omega
    exact absurd (lt_of_lt_of_le hlt (hkc.trans h.low)) (lt_irrefl _)
  · intro hck
    refine lt_of_lt_of_le h.high ?_
    rcases Nat.lt_or_ge k 255 with hk' | hk'
    · rw [powVal_mid (c + 1) (by omega) (by omega), powVal_mid k (by omega) hk', p2_le]; push_cast; omega
    · rw [show k = 255 by omega, powVal_last]; exact le_top

/-- The kernel's word of the scale, from `t`. -/
def scaleWord (t : EReal) : BitVec 32 :=
  Scalar.select
    (IntOp.cmpi CmpIPredicate.eq
      (IntOp.shli ArithUnit.vector
        (IntOp.subi
          (Finset.fold IntOp.addi (0#32)
            (fun x : Fin 256 => if t < Ideal.ofBits FTy.f32 (IntOp.shli ArithUnit.vector (BitVec.ofNat 32 ↑x) 23#32) then 0#32 else 1#32)
            Finset.univ)
          1#32)
        23#32)
      0#32)
    (1065353216#32)
    (IntOp.addi
      (IntOp.shli ArithUnit.vector
        (IntOp.subi
          (Finset.fold IntOp.addi (0#32)
            (fun x : Fin 256 => if t < Ideal.ofBits FTy.f32 (IntOp.shli ArithUnit.vector (BitVec.ofNat 32 ↑x) 23#32) then 0#32 else 1#32)
            Finset.univ)
          1#32)
        23#32)
      8388608#32)

/-- How many of the first 256 numbers do not exceed `c`. -/
theorem count_words (c : ℕ) (hc : c < 253) :
    Finset.fold IntOp.addi (0#32) (fun x : Fin 256 => if c < (x : ℕ) then 0#32 else 1#32) Finset.univ = BitVec.ofNat 32 (c + 1) := by
  have := (by decide +kernel : ∀ c : Fin 253,
    Finset.fold IntOp.addi (0#32) (fun x : Fin 256 => if (c : ℕ) < (x : ℕ) then 0#32 else 1#32) Finset.univ = BitVec.ofNat 32 (c + 1))
  exact this ⟨c, hc⟩

/-- The kernel's word of the scale, from the binade. -/
def binadeWord (c : ℕ) : BitVec 32 := if c = 0 then 1065353216#32 else powWord (c + 1)

theorem scaleWord_of_binade {t : EReal} {c : ℕ} (h : Binade t c) : scaleWord t = binadeWord c := by
  have hfun : (fun x : Fin 256 => if t < Ideal.ofBits FTy.f32 (IntOp.shli ArithUnit.vector (BitVec.ofNat 32 ↑x) 23#32) then 0#32 else 1#32) =
      fun x : Fin 256 => if c < (x : ℕ) then 0#32 else 1#32 :=
    funext fun x => if_congr (h.lt_iff x x.isLt) rfl rfl
  unfold scaleWord
  rw [hfun, count_words c h.lt]
  have := (by decide +kernel : ∀ c : Fin 253,
    Scalar.select (IntOp.cmpi CmpIPredicate.eq (IntOp.shli ArithUnit.vector (IntOp.subi (BitVec.ofNat 32 (c + 1)) 1#32) 23#32) 0#32)
      (1065353216#32) (IntOp.addi (IntOp.shli ArithUnit.vector (IntOp.subi (BitVec.ofNat 32 (c + 1)) 1#32) 23#32) 8388608#32)
      = binadeWord c)
  exact this ⟨c, h.lt⟩

/-- The exponent of the scale, from the binade. -/
def binadeExp (c : ℕ) : ℤ := if c = 0 then 0 else (c : ℤ) - 126

theorem value_binadeWord (c : ℕ) (hc : c < 253) : Ideal.ofBits .f32 (binadeWord c) = p2 (binadeExp c) := by
  unfold binadeWord binadeExp
  split
  · rw [value_pow 1065353216#32 127 (by omega) (by omega) (by decide) (by decide) (by decide)]; rfl
  · show powVal (c + 1) = _
    rw [powVal_mid _ (by omega) (by omega)]
    congr 1; push_cast; ring

theorem value_inverseWord (c : ℕ) (hc : c < 253) :
    Ideal.ofBits .f32 (IntOp.subi (2130706432#32) (binadeWord c)) = p2 (-binadeExp c) := by
  have hw := (by decide +kernel : ∀ c : Fin 253, IntOp.subi (2130706432#32) (binadeWord c) = powWord (if (c : ℕ) = 0 then 127 else 253 - c))
  rw [hw ⟨c, hc⟩]
  show powVal _ = _
  rw [powVal_mid _ (by dsimp only; split <;> omega) (by dsimp only; split <;> omega)]
  unfold binadeExp
  dsimp only
  split
  · rfl
  · rw [Nat.cast_sub (by omega)]; congr 1; push_cast; ring

/-- The reference's scale, from `t`. -/
def refScale (t : EReal) : EReal :=
  if t < Ideal.ofBits .f32 0x00800000#32 then Ideal.ofBits .f32 0x3F800000#32
  else Finset.fold min (Ideal.ofBits .f32 0x7F800000#32)
    (fun k : Fin 253 => if t < Ideal.exp2 (((IntOp.subi (BitVec.ofNat 32 k) 125#32).toInt : ℝ) : EReal)
      then Ideal.exp2 (((IntOp.subi (BitVec.ofNat 32 k) 125#32).toInt : ℝ) : EReal) else Ideal.ofBits .f32 0x7F800000#32) Finset.univ

theorem exp2_at (k : Fin 253) : Ideal.exp2 (((IntOp.subi (BitVec.ofNat 32 k) 125#32).toInt : ℝ) : EReal) = p2 ((k : ℤ) - 125) := by
  have hw := (by decide +kernel : ∀ k : Fin 253, (IntOp.subi (BitVec.ofNat 32 k) 125#32).toInt = (k : ℤ) - 125)
  rw [hw k, Ideal.exp2_coe]
  unfold p2
  congr 1
  exact Real.rpow_intCast 2 _

theorem refScale_of_binade {t : EReal} {c : ℕ} (h : Binade t c) : refScale t = p2 (binadeExp c) := by
  have htop : Ideal.ofBits .f32 0x7F800000#32 = (⊤ : EReal) := powVal_last
  have hone : Ideal.ofBits .f32 0x3F800000#32 = p2 0 :=
    value_pow _ 127 (by omega) (by omega) (by decide) (by decide) (by decide)
  have hmin : Ideal.ofBits .f32 0x00800000#32 = powVal 1 := rfl
  have hc := h.lt
  unfold refScale
  rw [hmin, htop, hone]
  unfold binadeExp
  by_cases h0 : c = 0
  · subst h0
    rw [if_pos ((h.lt_iff 1 (by omega)).mpr (by omega)), if_pos rfl]
  · rw [if_neg (by rw [h.lt_iff 1 (by omega)]; omega), if_neg h0]
    have hlt : ∀ k : Fin 253, (t < p2 ((k : ℤ) - 125)) ↔ c < (k : ℕ) + 2 := fun k => by
      have := h.lt_iff ((k : ℕ) + 2) (by omega)
      rw [powVal_mid _ (by omega) (by omega)] at this
      rw [← this]
      have he : ((k : ℕ) : ℤ) - 125 = (((k : ℕ) + 2 : ℕ) : ℤ) - 127 := by push_cast; ring
      rw [he]
    simp only [exp2_at]
    apply le_antisymm
    · rw [Finset.fold_min_le]
      right
      refine ⟨⟨c - 1, by omega⟩, Finset.mem_univ _, ?_⟩
      rw [if_pos ((hlt ⟨c - 1, by omega⟩).mpr (by dsimp only; omega))]
      rw [p2_le]; dsimp only; omega
    · rw [Finset.le_fold_min]
      refine ⟨le_top, fun k _ => ?_⟩
      split
      · rename_i hk
        have := (hlt k).mp hk
        rw [p2_le]; omega
      · exact le_top

/-- One over a power of two. -/
theorem one_div_p2 (n : ℤ) : Ideal.div (p2 0) (p2 n) = p2 (-n) := by
  unfold Ideal.div
  rw [if_neg (p2_pos n).ne']
  unfold p2
  rw [← EReal.coe_inv, ← EReal.coe_mul]
  congr 1
  rw [zpow_zero, one_mul, zpow_neg]

/-- The kernel's word is worth the reference's scale, -/
theorem value_scaleWord (t : EReal) (h0 : 0 ≤ t) (h1 : t < p2 126) : Ideal.ofBits .f32 (scaleWord t) = refScale t := by
  obtain ⟨c, h⟩ := exists_binade t h0 h1
  rw [scaleWord_of_binade h, refScale_of_binade h, value_binadeWord c h.lt]

/-- and the word subtracted from twice the bias is worth its inverse. -/
theorem value_scaleWord_inverse (t : EReal) (h0 : 0 ≤ t) (h1 : t < p2 126) :
    Ideal.ofBits .f32 (IntOp.subi (2130706432#32) (scaleWord t)) = Ideal.div (Ideal.ofBits .f32 0x3F800000#32) (refScale t) := by
  obtain ⟨c, h⟩ := exists_binade t h0 h1
  have hone : Ideal.ofBits .f32 0x3F800000#32 = p2 0 :=
    value_pow _ 127 (by omega) (by omega) (by decide) (by decide) (by decide)
  rw [scaleWord_of_binade h, refScale_of_binade h, value_inverseWord c h.lt, hone, one_div_p2]

end Cert.Scale

end
-- ==== Proof.Block.lean ====
import proofs.«01_k».proof.Proof.Stores
import proofs.«01_k».proof.Proof.Scale
import Idealize.ShloMosaic.Lib.Pointwise

/-!
The payloads of the kernel, at an index.
-/

set_option maxRecDepth 16384

noncomputable section

namespace Cert.KernelIdeal.Block

open Idealize.ShloMosaic Cert.KernelIdeal.Gen Cert.Scale

/-- The largest absolute value of a group of 128 channels, over 448. -/
def level (f : Fin 128 → EReal) : EReal :=
  Finset.fold max (Ideal.ofBits .bf16 65408#16) (fun x => FloatOps.absf (F := Ideal) (φ := .bf16) (f x)) Finset.univ *
    Ideal.ofBits .f32 991054117#32

/-- The kernel's code of `a` in a group of level `t`. -/
def code (t a : EReal) : EReal :=
  min (Ideal.ofBits .f32 1138753536#32) (max (Ideal.ofBits .f32 3286237184#32)
    (a * Ideal.ofBits .f32 (IntOp.subi 2130706432#32 (scaleWord t))))

theorem word_at (v : Vec Ideal S1x128x128 .bf16) (j : S1x128.Idx) (r : Fin 128) (hr : j 1 = r) :
    k0_pay286 (F := Ideal) v j = scaleWord (level fun x => v (ix3 0 r x)) := by
  subst hr
  idx_vars j
  pointwise [k0_pay286, k0_pay285]
  rfl

theorem scale_at (v : Vec Ideal S1x128x128 .bf16) (a b : Fin 1) (r : Fin 128) :
    k0_pay289 (F := Ideal) (k0_pay287 v) (ix3 a b r) = Ideal.ofBits .f32 (scaleWord (level fun x => v (ix3 0 r x))) := by
  pointwise [k0_pay289, k0_pay287]
  rw [word_at v _ r rfl]

theorem code_at (v : Vec Ideal S1x128x128 .bf16) (a : Fin 1) (r c : Fin 128) :
    k0_pay292 (F := Ideal) (k0_pay285 v) (k0_pay288 v) (ix3 a r c) =
      code (level fun x => v (ix3 0 r x)) (v (ix3 0 r c)) := by
  pointwise [k0_pay292, k0_pay290, k0_pay288, k0_pay285]
  rw [word_at v _ r rfl]
  rfl

theorem dequant_at (v : Vec Ideal S1x128x128 .bf16) (g : Fin 64) (h : Fin 2) (r : Fin 128) (c : Fin 128)
    (hc : (c : ℕ) = 2 * (g : ℕ) + (h : ℕ)) :
    k0_pay291 (F := Ideal) (k0_pay285 v) (k0_pay287 v) (k0_pay288 v) (ix3 g h r) =
      code (level fun x => v (ix3 0 r x)) (v (ix3 0 r c)) *
        Ideal.ofBits .f32 (scaleWord (level fun x => v (ix3 0 r x))) := by
  pointwise [k0_pay291, k0_pay290, k0_pay288, k0_pay287, k0_pay285]
  rw [word_at v _ r rfl]
  have hh := h.isLt
  split
  · rw [show (⟨2 * (g : ℕ), by omega⟩ : Fin 128) = c from Fin.ext (by show 2 * (g : ℕ) = c; omega)]
    rfl
  · rw [show (⟨2 * (g : ℕ) + 1, by omega⟩ : Fin 128) = c from Fin.ext (by show 2 * (g : ℕ) + 1 = c; omega)]
    rfl

theorem weight_at (s : Elt Ideal .f32) (v : Vec Ideal S128x128 .fp8e4m3) (g : Fin 64) (h : Fin 2) (x : Fin 128) (c : Fin 128)
    (hc : (c : ℕ) = 2 * (g : ℕ) + (h : ℕ)) :
    k0_pay2 (F := Ideal) s v (ix3 g h x) = (v (ix2 c x) * s : EReal) := by
  pointwise [k0_pay2]
  have hh := h.isLt
  split
  · rw [show (⟨2 * (g : ℕ), by omega⟩ : Fin 128) = c from Fin.ext (by show 2 * (g : ℕ) = c; omega)]
  · rw [show (⟨2 * (g : ℕ) + 1, by omega⟩ : Fin 128) = c from Fin.ext (by show 2 * (g : ℕ) + 1 = c; omega)]

theorem rows_at (s : Elt Ideal .f32) (v : Vec Ideal S64x128 .fp8e4m3) (j : S64x128.Idx) :
    k0_pay9 (F := Ideal) s v j = (v j * s : EReal) := by
  idx_vars j
  pointwise [k0_pay9]

theorem pairs_at (a b : Vec Ideal S32x128 .f32) (g : Fin 32) (h : Fin 2) (x : Fin 128) (y : EReal)
    (ha : ∀ c : Fin 32, (c : ℕ) = 2 * (g : ℕ) + (h : ℕ) → a (ix2 c x) = y)
    (hb : ∀ c : Fin 32, (c : ℕ) + 32 = 2 * (g : ℕ) + (h : ℕ) → b (ix2 c x) = y) :
    k0_pay13 (F := Ideal) (k0_pay11 a b) (k0_pay12 a b) (ix3 g h x) = y := by
  pointwise [k0_pay13, k0_pay11, k0_pay12, k0_pay10]
  have hh := h.isLt
  split
  · split
    · exact ha _ (by show 2 * (g : ℕ) = _; omega)
    · exact hb _ (by show 2 * (g : ℕ) - 32 + 32 = _; omega)
  · split
    · exact ha _ (by show 2 * (g : ℕ) + 1 = _; omega)
    · exact hb _ (by show 2 * (g : ℕ) + 1 - 32 + 32 = _; omega)

theorem gamma0_at (v : Vec Ideal S1x512 .bf16) (r x : Fin 128) (c : Fin 512) (hc : (c : ℕ) = r) :
    k0_pay280 (F := Ideal) v (ix2 r x) = v (ix2 0 c) := by
  rw [show c = ⟨(r : ℕ), by omega⟩ from Fin.ext hc]
  pointwise [k0_pay280, k0_pay279]

theorem gamma1_at (v : Vec Ideal S1x512 .bf16) (r x : Fin 128) (c : Fin 512) (hc : (c : ℕ) = 128 + r) :
    k0_pay282 (F := Ideal) (k0_pay281 v) (ix2 r x) = v (ix2 0 c) := by
  rw [show c = ⟨128 + (r : ℕ), by omega⟩ from Fin.ext hc]
  pointwise [k0_pay282, k0_pay281, k0_pay279]

theorem gamma2_at (v : Vec Ideal S1x512 .bf16) (r x : Fin 128) (c : Fin 512) (hc : (c : ℕ) = 256 + r) :
    k0_pay283 (F := Ideal) (k0_pay279 v) (ix2 r x) = v (ix2 0 c) := by
  rw [show c = ⟨256 + (r : ℕ), by omega⟩ from Fin.ext hc]
  pointwise [k0_pay283, k0_pay279]

theorem gamma3_at (v : Vec Ideal S1x512 .bf16) (r x : Fin 128) (c : Fin 512) (hc : (c : ℕ) = 384 + r) :
    k0_pay284 (F := Ideal) (k0_pay279 v) (ix2 r x) = v (ix2 0 c) := by
  rw [show c = ⟨384 + (r : ℕ), by omega⟩ from Fin.ext hc]
  pointwise [k0_pay284, k0_pay279]

theorem of_parity {ι : Type} (f : Fin 2 → ι) (m : ℕ) (h : m % 2 < 2) :
    (if m % 2 = 0 then f 0 else f 1) = f ⟨m % 2, h⟩ := by
  split
  · rename_i h0
    exact congrArg f (Fin.ext h0.symm)
  · rename_i h0
    exact congrArg f (Fin.ext (by show 1 = m % 2; omega))

/-- The product at a row and a column. -/
theorem prod_at (w : Vec Ideal S288x2x3584 .bf16) (d : Vec Ideal S1792x2x256 .bf16) (b : ℕ) (n : Fin 576) (r : Fin 128) :
    Stores.prod (F := Ideal) w d b (ix2 n r) =
      ∑ k : Fin 3584, (w (ix3 ⟨(n : ℕ) / 2, by omega⟩ ⟨(n : ℕ) % 2, by omega⟩ k) *
        d (ix3 ⟨(k : ℕ) / 2, by omega⟩ ⟨(k : ℕ) % 2, by omega⟩ ⟨128 * (b % 2) + (r : ℕ), by omega⟩) : EReal) := by
  unfold Stores.prod
  split
  · rename_i h0
    pointwise [k0_pay2351, k0_pay2350, k0_pay2349]
    refine Finset.sum_congr rfl fun k _ => ?_
    rw [of_parity (fun z => w (ix3 ⟨(n : ℕ) / 2, by omega⟩ z k)) n (by omega),
      of_parity (fun z => d (ix3 ⟨(k : ℕ) / 2, by omega⟩ z ⟨(r : ℕ), by omega⟩)) k (by omega)]
    congr 2
    congr 1
    exact Fin.ext (by show (r : ℕ) = 128 * (b % 2) + r; omega)
  · rename_i h0
    pointwise [k0_pay2363, k0_pay2350, k0_pay2349]
    refine Finset.sum_congr rfl fun k _ => ?_
    rw [of_parity (fun z => w (ix3 ⟨(n : ℕ) / 2, by omega⟩ z k)) n (by omega),
      of_parity (fun z => d (ix3 ⟨(k : ℕ) / 2, by omega⟩ z ⟨128 + (r : ℕ), by omega⟩)) k (by omega)]
    congr 2
    congr 1
    exact Fin.ext (by show 128 + (r : ℕ) = 128 * (b % 2) + r; omega)

/-- The normalised rows at an index, of a product `y`. -/
theorem norm_at (y : FVec Ideal S576x128 .f32) (g : Vec Ideal S512x128 .f32) (a : Fin 1) (r : Fin 128) (n : Fin 512) :
    k0_pay2364 (F := Ideal) y g (ix3 a r n) =
      (y (ix2 ⟨n, by omega⟩ r) *
        Ideal.rsqrt ((∑ x : Fin 512, (y (ix2 ⟨x, by omega⟩ r) * y (ix2 ⟨x, by omega⟩ r) : EReal)) * Ideal.ofBits .f32 989855744#32 +
          Ideal.ofBits .f32 897988541#32) * g (ix2 n r) : EReal) := by
  pointwise [k0_pay2364]

section Rope
variable (p : Vec Ideal S1x128 .i32) (f : Vec Ideal S32x128 .f32) (n : Fin 32) (r : Fin 128) (hp : p (ix2 0 r) = 0#32)
include hp

theorem angle_zero : k0_pay2353 (F := Ideal) p f (ix2 n r) = (0 : EReal) := by
  pointwise [k0_pay2353]
  rw [hp]
  show (((0#32 : BitVec 32).toInt : ℝ) : EReal) * _ = 0
  simp

theorem quarter_zero : k0_pay2354 (F := Ideal) p f (ix2 n r) = (0 : EReal) := by
  pointwise [k0_pay2354]
  rw [angle_zero p f n r hp]
  rw [zero_mul, zero_add, show (1056964608#32 : BitVec 32) = 0x3F000000#32 from rfl, value_pow 0x3F000000#32 126 (by decide) (by decide) (by decide) (by decide) (by decide)]
  show ((⌊(2 : ℝ) ^ (((126 : ℕ) : ℤ) - 127)⌋ : ℝ) : EReal) = 0
  norm_num

theorem rest_zero : k0_pay2355 (F := Ideal) p f (ix2 n r) = (0 : EReal) := by
  pointwise [k0_pay2355]
  rw [angle_zero p f n r hp, quarter_zero p f n r hp]
  simp

theorem square_zero : k0_pay2356 (F := Ideal) p f (ix2 n r) = (0 : EReal) := by
  pointwise [k0_pay2356]
  rw [rest_zero p f n r hp]
  simp

theorem sine_zero : k0_pay2357 (F := Ideal) p f (ix2 n r) = (0 : EReal) := by
  pointwise [k0_pay2357]
  rw [rest_zero p f n r hp, square_zero p f n r hp]
  simp

theorem cosine_head : k0_pay2358 (F := Ideal) p f (ix2 n r) = (1 : EReal) := by
  pointwise [k0_pay2358]
  rw [square_zero p f n r hp]
  simp

theorem fourth_zero : k0_pay2359 (F := Ideal) p f (ix2 n r) = (0 : EReal) := by
  pointwise [k0_pay2359]
  rw [square_zero p f n r hp]
  simp

theorem cosine_tail : k0_pay2360 (F := Ideal) p f (ix2 n r) = (0 : EReal) := by
  pointwise [k0_pay2360]
  rw [square_zero p f n r hp]
  simp

end Rope

theorem quarters_zero : FloatOps.fptosi (F := Ideal) (φ := .f32) 32 (0 : EReal) = 0#32 := by
  show Ideal.fptosi 32 ((0 : ℝ) : EReal) = 0#32
  rw [Ideal.fptosi, Ideal.toIntClamped_coe]
  norm_num

theorem select_true (a b : EReal) : Scalar.select 1#1 a b = a := rfl

theorem select_false (a b : EReal) : Scalar.select 0#1 a b = b := rfl

/-- The rotation of a product `y` where the quarter turns and the sine are 0 and the cosine is 1. -/
theorem rotate_at (y : FVec Ideal S576x128 .f32) (q s c1 c4 ct ch : FVec Ideal S32x128 .f32) (a : Fin 1) (n : Fin 64) (r : Fin 128)
    (hq : ∀ m, q (ix2 m r) = (0 : EReal)) (hs : ∀ m, s (ix2 m r) = (0 : EReal)) (h1 : ∀ m, c1 (ix2 m r) = (1 : EReal))
    (h4 : ∀ m, c4 (ix2 m r) = (0 : EReal)) (ht : ∀ m, ct (ix2 m r) = (0 : EReal)) :
    k0_pay2362 (F := Ideal) y q s c1 c4 ct ch (ix3 a n r) =
      (if (n : ℕ) % 2 = 0 then y (ix2 ⟨512 + (n : ℕ) / 2, by omega⟩ r) else y (ix2 ⟨544 + (n : ℕ) / 2, by omega⟩ r)) := by
  pointwise [k0_pay2362]
  simp only [hq, hs, h1, h4, ht, quarters_zero]
  rw [show IntOp.cmpi .eq (IntOp.andi (IntOp.addi 0#32 1#32) 2#32) 2#32 = 0#1 from rfl,
    show IntOp.cmpi .eq (IntOp.andi 0#32 1#32) 1#32 = 0#1 from rfl,
    show IntOp.cmpi .eq (IntOp.andi 0#32 2#32) 2#32 = 0#1 from rfl]
  simp only [select_false, zero_mul, add_zero, mul_one, mul_zero, sub_zero, zero_add]

/-- The rotated rows at an index whose position is 0. -/
theorem rope_at (y : FVec Ideal S576x128 .f32) (p : Vec Ideal S1x128 .i32) (f : Vec Ideal S32x128 .f32) (a : Fin 1) (n : Fin 64)
    (r : Fin 128) (hp : p (ix2 0 r) = 0#32) :
    k0_pay2362 (F := Ideal) y (k0_pay2354 p f) (k0_pay2357 p f) (k0_pay2358 p f) (k0_pay2359 p f) (k0_pay2360 p f)
      k0_pay2361 (ix3 a n r) =
      (if (n : ℕ) % 2 = 0 then y (ix2 ⟨512 + (n : ℕ) / 2, by omega⟩ r) else y (ix2 ⟨544 + (n : ℕ) / 2, by omega⟩ r)) :=
  rotate_at y _ _ _ _ _ _ a n r (fun m => quarter_zero p f m r hp) (fun m => sine_zero p f m r hp)
    (fun m => cosine_head p f m r hp) (fun m => fourth_zero p f m r hp) (fun m => cosine_tail p f m r hp)

end Cert.KernelIdeal.Block
-- ==== Proof.Tiles.lean ====
import proofs.«01_k».proof.Proof.Block
import Idealize.ShloMosaic.Lib.Pipeline.ValueKit

/-!
The buffers of the kernel, at an index: the scales, the codes, the dequantised codes, the weights and `gamma`.
-/

set_option maxRecDepth 16384

noncomputable section

namespace Cert.KernelIdeal.Tiles

open Idealize.ShloMosaic Cert.KernelIdeal.Gen Cert.Scale Cert.KernelIdeal.Stores Cert.KernelIdeal.Block

/-- Channel `c` of group `j`. -/
def chan (j : Fin 28) (c : Fin 128) : Fin 3584 := ⟨128 * (j : ℕ) + (c : ℕ), by omega⟩

/-- The group of a channel. -/
def grp (k : Fin 3584) : Fin 28 := ⟨(k : ℕ) / 128, by omega⟩

/-- The level of group `j` of token `t` of batch `b`. -/
def lev (x : Vec Ideal S8x128x3584 .bf16) (b : Fin 8) (t : Fin 128) (j : Fin 28) : EReal :=
  level fun c => x (ix3 b t (chan j c))

/-- The dequantised code of channel `k`. -/
def deq (x : Vec Ideal S8x128x3584 .bf16) (b : Fin 8) (t : Fin 128) (k : Fin 3584) : EReal :=
  code (lev x b t (grp k)) (x (ix3 b t k)) * Ideal.ofBits .f32 (scaleWord (lev x b t (grp k)))

section X

variable (arg1 : Memref sig .tc .vmem S8x128x3584 .bf16) (harg1 : arg1.IsWhole) (x : Vec Ideal S8x128x3584 .bf16)

theorem xt_at (p : ℕ) (a : Fin 1) (r c : Fin 128) (b : Fin 8) (k : Fin 3584) (hb : p / 28 % 8 = b)
    (hk : 128 * (p % 28) + (c : ℕ) = k) : xt (F := Ideal) arg1 harg1 x p (ix3 a r c) = x (ix3 b r k) := by
  unfold xt
  rw [View.readAt_eq_ld, harg1.read_unread]
  refine View.ld_unit_apply_of _ _ _ _ _ _ fun i => ?_
  fin_cases i
  · show (b : ℕ) = p / 28 % 8 + (a : ℕ); omega
  · show (r : ℕ) = 0 + (r : ℕ); omega
  · show (k : ℕ) = 128 * (p % 28) + (c : ℕ); omega

theorem xt_level (p : ℕ) (r : Fin 128) (b : Fin 8) (j : Fin 28) (hb : p / 28 % 8 = b) (hj : p % 28 = j) :
    (level fun c => xt (F := Ideal) arg1 harg1 x p (ix3 0 r c)) = lev x b r j :=
  congrArg level (funext fun c => xt_at arg1 harg1 x p 0 r c b (chan j c) hb (by show _ = 128 * (j : ℕ) + (c : ℕ); omega))

theorem scale_tile (v : Vec Ideal S1x128x128 .bf16) (i : S1x1x128.Idx) (r : Fin 128) (hr : i 2 = r) :
    k0_pay289 (F := Ideal) (k0_pay287 v) i = Ideal.ofBits .f32 (scaleWord (level fun x => v (ix3 0 r x))) := by
  subst hr
  idx_vars i
  exact scale_at v _ _ _

theorem code_tile (v : Vec Ideal S1x128x128 .bf16) (i : S1x128x128.Idx) (r c : Fin 128) (hr : i 1 = r) (hc : i 2 = c) :
    k0_pay292 (F := Ideal) (k0_pay285 v) (k0_pay288 v) i = code (level fun x => v (ix3 0 r x)) (v (ix3 0 r c)) := by
  subst hr hc
  idx_vars i
  exact code_at v _ _ _

theorem dequant_tile (v : Vec Ideal S1x128x128 .bf16) (i : S64x2x128.Idx) (r c : Fin 128) (hr : i 2 = r)
    (hc : (c : ℕ) = 2 * (i 0 : ℕ) + (i 1 : ℕ)) :
    k0_pay291 (F := Ideal) (k0_pay285 v) (k0_pay287 v) (k0_pay288 v) i =
      code (level fun x => v (ix3 0 r x)) (v (ix3 0 r c)) *
        Ideal.ofBits .f32 (scaleWord (level fun x => v (ix3 0 r x))) := by
  subst hr
  idx_vars i
  exact dequant_at v _ _ _ c hc

/-- The scales. -/
theorem scales_at (j : Fin 28) (b : Fin 8) (t : Fin 128) :
    View.canon (sPieces (F := Ideal) arg1 harg1 x) (ix3 j b t) = Ideal.ofBits .f32 (scaleWord (lev x b t j)) := by
  unfold sPieces
  refine View.canon_ofFn_unit_eq_of_forall (Val := Elt Ideal) (S := S28x8x128) (e := .f32) (fun k : Fin 224 => offS (223 - k)) ![1, 1, 128] (fun k => inbS _)
    (fun k => k0_pay289 (k0_pay287 (xt arg1 harg1 x (223 - k)))) _ _
    ⟨⟨223 - (28 * (b : ℕ) + (j : ℕ)), by omega⟩, fun a => ?_⟩ fun k i hi => ?_
  · have h : 223 - (223 - (28 * (b : ℕ) + (j : ℕ))) = 28 * (b : ℕ) + (j : ℕ) := by omega
    fin_cases a
    · show (223 - (223 - (28 * (b : ℕ) + (j : ℕ)))) % 28 ≤ (j : ℕ) ∧ (j : ℕ) < (223 - (223 - (28 * (b : ℕ) + (j : ℕ)))) % 28 + 1
      rw [h]; omega
    · show (223 - (223 - (28 * (b : ℕ) + (j : ℕ)))) / 28 % 8 ≤ (b : ℕ) ∧ (b : ℕ) < (223 - (223 - (28 * (b : ℕ) + (j : ℕ)))) / 28 % 8 + 1
      rw [h]; omega
    · show 0 ≤ (t : ℕ) ∧ (t : ℕ) < 0 + 128
      omega
  · have h0 : (j : ℕ) = (223 - (k : ℕ)) % 28 + (i 0 : ℕ) := hi 0
    have h1 : (b : ℕ) = (223 - (k : ℕ)) / 28 % 8 + (i 1 : ℕ) := hi 1
    have h2 : (t : ℕ) = 0 + (i 2 : ℕ) := hi 2
    have e0 : (i 0 : ℕ) < 1 := (i 0).isLt
    have e1 : (i 1 : ℕ) < 1 := (i 1).isLt
    exact (scale_tile _ i t (Fin.ext (by omega))).trans (by rw [xt_level arg1 harg1 x _ t b j (by omega) (by omega)])

/-- The codes. -/
theorem codes_at (b : Fin 8) (t : Fin 128) (k : Fin 3584) :
    View.canon (cPieces (F := Ideal) arg1 harg1 x) (ix3 b t k) = code (lev x b t (grp k)) (x (ix3 b t k)) := by
  unfold cPieces
  refine View.canon_ofFn_unit_eq_of_forall (Val := Elt Ideal) (S := S8x128x3584) (e := .fp8e4m3) (fun k : Fin 224 => offX (223 - k)) ![1, 128, 128] (fun k => inbX _)
    (fun k => k0_pay292 (k0_pay285 (xt arg1 harg1 x (223 - k))) (k0_pay288 (xt arg1 harg1 x (223 - k)))) _ _
    ⟨⟨223 - (28 * (b : ℕ) + (k : ℕ) / 128), by omega⟩, fun a => ?_⟩ fun p i hi => ?_
  · have h : 223 - (223 - (28 * (b : ℕ) + (k : ℕ) / 128)) = 28 * (b : ℕ) + (k : ℕ) / 128 := by omega
    fin_cases a
    · show (223 - (223 - (28 * (b : ℕ) + (k : ℕ) / 128))) / 28 % 8 ≤ (b : ℕ) ∧ (b : ℕ) < (223 - (223 - (28 * (b : ℕ) + (k : ℕ) / 128))) / 28 % 8 + 1
      rw [h]; omega
    · show 0 ≤ (t : ℕ) ∧ (t : ℕ) < 0 + 128
      omega
    · show 128 * ((223 - (223 - (28 * (b : ℕ) + (k : ℕ) / 128))) % 28) ≤ (k : ℕ) ∧ (k : ℕ) < 128 * ((223 - (223 - (28 * (b : ℕ) + (k : ℕ) / 128))) % 28) + 128
      rw [h]; omega
  · have h0 : (b : ℕ) = (223 - (p : ℕ)) / 28 % 8 + (i 0 : ℕ) := hi 0
    have h1 : (t : ℕ) = 0 + (i 1 : ℕ) := hi 1
    have h2 : (k : ℕ) = 128 * ((223 - (p : ℕ)) % 28) + (i 2 : ℕ) := hi 2
    have e0 : (i 0 : ℕ) < 1 := (i 0).isLt
    have e2 : (i 2 : ℕ) < 128 := (i 2).isLt
    exact (code_tile _ i t (i 2) (Fin.ext (by omega)) rfl).trans (by
      rw [xt_level arg1 harg1 x _ t b (grp k) (by omega) (by show _ = (k : ℕ) / 128; omega),
        xt_at arg1 harg1 x _ 0 t (i 2) b k (by omega) h2.symm])

/-- The buffer of the dequantised codes: channel `k` of token `t` of batch `b`. -/
theorem pairs_dequantised (g : Fin 1792) (h : Fin 2) (y : Fin 1024) (b : Fin 8) (t : Fin 128) (k : Fin 3584)
    (hy : (y : ℕ) = 128 * (b : ℕ) + (t : ℕ)) (hk : (k : ℕ) = 2 * (g : ℕ) + (h : ℕ)) :
    View.canon (dPieces (F := Ideal) arg1 harg1 x) (ix3 g h y) = deq x b t k := by
  unfold dPieces
  have hh := h.isLt
  refine View.canon_ofFn_unit_eq_of_forall (Val := Elt Ideal) (S := S1792x2x1024) (e := .bf16) (fun k : Fin 224 => offD (223 - k)) ![64, 2, 128] (fun k => inbD _)
    (fun k => k0_pay291 (k0_pay285 (xt arg1 harg1 x (223 - k))) (k0_pay287 (xt arg1 harg1 x (223 - k)))
      (k0_pay288 (xt arg1 harg1 x (223 - k)))) _ _
    ⟨⟨223 - (28 * (b : ℕ) + (k : ℕ) / 128), by omega⟩, fun a => ?_⟩ fun p i hi => ?_
  · have h : 223 - (223 - (28 * (b : ℕ) + (k : ℕ) / 128)) = 28 * (b : ℕ) + (k : ℕ) / 128 := by omega
    fin_cases a
    · show 64 * ((223 - (223 - (28 * (b : ℕ) + (k : ℕ) / 128))) % 28) ≤ (g : ℕ) ∧ (g : ℕ) < 64 * ((223 - (223 - (28 * (b : ℕ) + (k : ℕ) / 128))) % 28) + 64
      rw [h]; omega
    · show 0 ≤ _ ∧ _ < 0 + 2
      exact ⟨Nat.zero_le _, by simpa using hh⟩
    · show 128 * ((223 - (223 - (28 * (b : ℕ) + (k : ℕ) / 128))) / 28 % 8) ≤ (y : ℕ) ∧ (y : ℕ) < 128 * ((223 - (223 - (28 * (b : ℕ) + (k : ℕ) / 128))) / 28 % 8) + 128
      rw [h]; omega
  · have h0 : (g : ℕ) = 64 * ((223 - (p : ℕ)) % 28) + (i 0 : ℕ) := hi 0
    have h1 : (h : ℕ) = 0 + (i 1 : ℕ) := hi 1
    have h2 : (y : ℕ) = 128 * ((223 - (p : ℕ)) / 28 % 8) + (i 2 : ℕ) := hi 2
    have e0 : (i 0 : ℕ) < 64 := (i 0).isLt
    have e2 : (i 2 : ℕ) < 128 := (i 2).isLt
    exact (dequant_tile _ i t ⟨2 * (i 0 : ℕ) + (i 1 : ℕ), by omega⟩ (Fin.ext (by omega)) rfl).trans (by
      rw [xt_level arg1 harg1 x _ t b (grp k) (by omega) (by show _ = (k : ℕ) / 128; omega),
        xt_at arg1 harg1 x _ 0 t _ b k (by omega) (by show 128 * _ + (2 * (i 0 : ℕ) + (i 1 : ℕ)) = (k : ℕ); omega)]
      rfl)

/-- The product of a batch with the weights. -/
theorem product_at (arg14 : Memref sig .tc .vmem S1792x2x1024 .bf16) (w : Vec Ideal S288x2x3584 .bf16) (b : Fin 8)
    (n : Fin 576) (t : Fin 128) :
    Stores.prod (F := Ideal) w (dq arg1 harg1 arg14 x ((b : ℕ) / 2)) b (ix2 n t) =
      ∑ k : Fin 3584, (w (ix3 ⟨(n : ℕ) / 2, by omega⟩ ⟨(n : ℕ) % 2, by omega⟩ k) * deq x b t k : EReal) := by
  rw [prod_at]
  refine Finset.sum_congr rfl fun k _ => congrArg (_ * ·) ?_
  unfold dq
  rw [View.readCov_eq_canon']
  refine (congrArg _ ?_).trans (pairs_dequantised arg1 harg1 x ⟨(k : ℕ) / 2, by omega⟩ ⟨(k : ℕ) % 2, by omega⟩
    ⟨128 * (b : ℕ) + (t : ℕ), by omega⟩ b t k rfl (by show (k : ℕ) = 2 * ((k : ℕ) / 2) + (k : ℕ) % 2; omega))
  funext a
  refine Fin.ext ?_
  fin_cases a
  · show 0 + 1 * ((k : ℕ) / 2) = (k : ℕ) / 2; omega
  · show 0 + 1 * ((k : ℕ) % 2) = (k : ℕ) % 2; omega
  · show 256 * ((b : ℕ) / 2 % 4) + 1 * (128 * ((b : ℕ) % 2) + (t : ℕ)) = 128 * (b : ℕ) + (t : ℕ); omega

end X

end Cert.KernelIdeal.Tiles

end
-- ==== Proof.Weights.lean ====
import proofs.«01_k».proof.Proof.Tiles

/-!
The weights and `gamma` in their buffers, and the normalised and the rotated rows of a batch, at an index.
-/

set_option maxRecDepth 16384

noncomputable section

namespace Cert.KernelIdeal.Weights

open Idealize.ShloMosaic Cert.KernelIdeal.Gen Cert.Scale Cert.KernelIdeal.Stores Cert.KernelIdeal.Block Cert.KernelIdeal.Tiles

/-- The row of the weights that row `m` of the buffer holds: the even rows of the last 64 come before the odd ones. -/
def source (m : ℕ) : ℕ := if m < 512 then m else if m < 544 then 2 * m - 512 else 2 * m - 575

theorem source_lt (m : ℕ) (h : m < 576) : source m < 576 := by
  unfold source; split <;> try split
  all_goals omega

/-- Row `n`, channel `k` of the scaled weights. -/
def wgt (w : Vec Ideal S576x3584 .fp8e4m3) (s : Vec Ideal S5x28 .f32) (n : Fin 576) (k : Fin 3584) : EReal :=
  w (ix2 n k) * s (ix2 ⟨(n : ℕ) / 128, by omega⟩ (grp k))

/-- The buffer of the weights. -/
def table (w : Vec Ideal S576x3584 .fp8e4m3) (s : Vec Ideal S5x28 .f32) (y : S288x2x3584.Idx) : EReal :=
  wgt w s ⟨source (2 * (y 0 : ℕ) + (y 1 : ℕ)), source_lt _ (by
    have h0 : (y 0 : ℕ) < 288 := (y 0).isLt
    have h1 : (y 1 : ℕ) < 2 := (y 1).isLt
    omega)⟩ (y 2)

section W

variable (arg2 : Memref sig .tc .vmem S576x3584 .fp8e4m3) (harg2 : arg2.IsWhole)
  (arg3 : Memref sig .tc .smem S5x28 .f32) (harg3 : arg3.IsWhole) (arg13 : Memref sig .tc .vmem S64x128 .f32)
  (x1 : Vec Ideal S576x3584 .fp8e4m3) (x2 : Vec Ideal S5x28 .f32)

theorem ws_at (r j : ℕ) (a : Fin 5) (b : Fin 28) (ha : r % 5 = a) (hb : j % 28 = b) :
    ws (F := Ideal) arg3 harg3 x2 r j = x2 (ix2 a b) := by
  unfold ws
  rw [View.readAt_eq_ld, harg3.read_unread]
  refine View.ld_unit_apply_of _ _ _ _ _ _ fun i => ?_
  fin_cases i
  · show (a : ℕ) = r % 5 + 0; omega
  · show (b : ℕ) = j % 28 + 0; omega

theorem wt_at (r j : ℕ) (h : r < 4) (c x : Fin 128) (n : Fin 576) (k : Fin 3584) (hn : 128 * (r % 5) + (c : ℕ) = n)
    (hk : 128 * (j % 28) + (x : ℕ) = k) : wt (F := Ideal) arg2 harg2 x1 r j h (ix2 c x) = x1 (ix2 n k) := by
  unfold wt
  rw [View.readAt_eq_ld, harg2.read_unread]
  refine View.ld_unit_apply_of _ _ _ _ _ _ fun i => ?_
  fin_cases i
  · show (n : ℕ) = 128 * (r % 5) + (c : ℕ); omega
  · show (k : ℕ) = 128 * (j % 28) + (x : ℕ); omega

theorem wr_at (j : ℕ) (c : Fin 64) (x : Fin 128) (n : Fin 576) (k : Fin 3584) (hn : 512 + (c : ℕ) = n)
    (hk : 128 * (j % 28) + (x : ℕ) = k) : wr (F := Ideal) arg2 harg2 x1 j (ix2 c x) = x1 (ix2 n k) := by
  unfold wr
  rw [View.readAt_eq_ld, harg2.read_unread]
  refine View.ld_unit_apply_of _ _ _ _ _ _ fun i => ?_
  fin_cases i
  · show (n : ℕ) = 128 * (4 % 5) + (c : ℕ); omega
  · show (k : ℕ) = 128 * (j % 28) + (x : ℕ); omega

/-- A store of 128 rows puts the scaled weights where the buffer has them. -/
theorem weight_tile (r j : ℕ) (h : r < 4) (i : S64x2x128.Idx) (y : S288x2x3584.Idx)
    (h0 : (y 0 : ℕ) = 64 * (r % 5) + (i 0 : ℕ)) (h1 : (y 1 : ℕ) = (i 1 : ℕ)) (h2 : (y 2 : ℕ) = 128 * (j % 28) + (i 2 : ℕ)) :
    k0_pay2 (F := Ideal) (ws arg3 harg3 x2 r j) (wt arg2 harg2 x1 r j h) i = table x1 x2 y := by
  have e0 : (i 0 : ℕ) < 64 := (i 0).isLt
  have e1 : (i 1 : ℕ) < 2 := (i 1).isLt
  have e2 : (i 2 : ℕ) < 128 := (i 2).isLt
  have hs : source (2 * (y 0 : ℕ) + (y 1 : ℕ)) = 2 * (y 0 : ℕ) + (y 1 : ℕ) := if_pos (by omega)
  have key : k0_pay2 (F := Ideal) (ws arg3 harg3 x2 r j) (wt arg2 harg2 x1 r j h) (ix3 (i 0) (i 1) (i 2)) = table x1 x2 y := by
    refine (weight_at _ _ (i 0) (i 1) (i 2) ⟨2 * (i 0 : ℕ) + (i 1 : ℕ), by omega⟩ rfl).trans ?_
    unfold table wgt
    rw [wt_at arg2 harg2 x1 r j h _ _ ⟨source (2 * (y 0 : ℕ) + (y 1 : ℕ)), source_lt _ (by omega)⟩ (y 2)
        (by show 128 * (r % 5) + (2 * (i 0 : ℕ) + (i 1 : ℕ)) = source _; omega) h2.symm,
      ws_at arg3 harg3 x2 r j ⟨source (2 * (y 0 : ℕ) + (y 1 : ℕ)) / 128, by omega⟩ (grp (y 2))
        (by show _ = source _ / 128; omega) (by show _ = (y 2 : ℕ) / 128; omega)]
  idx_vars i
  exact key

theorem rows_canon (j : ℕ) : View.canon (tPieces (F := Ideal) arg2 harg2 arg3 harg3 x1 x2 j) =
    k0_pay9 (ws arg3 harg3 x2 4 j) (wr arg2 harg2 x1 j) := by
  cases j
  all_goals
    unfold tPieces
    exact View.canon_cons_unit_zero (by funext a; fin_cases a <;> rfl) _ _ _

/-- A row of one parity of the last 64. -/
theorem tRows_at (j : ℕ) (off : Fin 2 → ℕ) (o : ℕ) (ho : off = ![o, 0]) (inb) (c : Fin 32) (x : Fin 128) (n : Fin 576)
    (k : Fin 3584) (hn : 512 + o + 2 * (c : ℕ) = n) (hk : 128 * (j % 28) + (x : ℕ) = k) :
    tRows (F := Ideal) arg2 harg2 arg3 harg3 arg13 x1 x2 j off inb (ix2 c x) = wgt x1 x2 n k := by
  unfold tRows
  rw [View.readCov_eq_canon', rows_canon]
  refine (rows_at _ _ _).trans ?_
  have hn' := n.isLt
  refine congrArg₂ (fun a b : EReal => a * b) (Eq.trans (congrArg _ ?_) (wr_at arg2 harg2 x1 j ⟨o + 2 * (c : ℕ), by omega⟩ x n k
    (by show 512 + (o + 2 * (c : ℕ)) = n; omega) hk))
    (ws_at arg3 harg3 x2 4 j _ _ (by show 4 % 5 = (n : ℕ) / 128; omega) (by show _ = (k : ℕ) / 128; omega))
  subst ho
  funext a
  refine Fin.ext ?_
  fin_cases a
  · show o + 2 * (c : ℕ) = o + 2 * (c : ℕ); rfl
  · show 0 + 1 * (x : ℕ) = (x : ℕ); omega

/-- The store of the last 64 rows, too. -/
theorem rope_tile (j : ℕ) (i : S32x2x128.Idx) (y : S288x2x3584.Idx)
    (h0 : (y 0 : ℕ) = 256 + (i 0 : ℕ)) (h1 : (y 1 : ℕ) = (i 1 : ℕ)) (h2 : (y 2 : ℕ) = 128 * (j % 28) + (i 2 : ℕ)) (inb inb') :
    k0_pay13 (F := Ideal)
      (k0_pay11 (tRows arg2 harg2 arg3 harg3 arg13 x1 x2 j ![0, 0] inb) (tRows arg2 harg2 arg3 harg3 arg13 x1 x2 j ![1, 0] inb'))
      (k0_pay12 (tRows arg2 harg2 arg3 harg3 arg13 x1 x2 j ![0, 0] inb) (tRows arg2 harg2 arg3 harg3 arg13 x1 x2 j ![1, 0] inb')) i =
      table x1 x2 y := by
  have e0 : (i 0 : ℕ) < 32 := (i 0).isLt
  have e1 : (i 1 : ℕ) < 2 := (i 1).isLt
  have key : k0_pay13 (F := Ideal)
      (k0_pay11 (tRows arg2 harg2 arg3 harg3 arg13 x1 x2 j ![0, 0] inb) (tRows arg2 harg2 arg3 harg3 arg13 x1 x2 j ![1, 0] inb'))
      (k0_pay12 (tRows arg2 harg2 arg3 harg3 arg13 x1 x2 j ![0, 0] inb) (tRows arg2 harg2 arg3 harg3 arg13 x1 x2 j ![1, 0] inb'))
      (ix3 (i 0) (i 1) (i 2)) = table x1 x2 y := by
    refine pairs_at _ _ _ _ _ _ (fun c hc => ?_) fun c hc => ?_
    · have hs : source (2 * (y 0 : ℕ) + (y 1 : ℕ)) = 2 * (2 * (y 0 : ℕ) + (y 1 : ℕ)) - 512 :=
        (if_neg (by omega)).trans (if_pos (by omega))
      exact tRows_at arg2 harg2 arg3 harg3 arg13 x1 x2 j _ 0 rfl inb c _ _ _
        (by show _ = source _; have := c.isLt; omega) h2.symm
    · have hs : source (2 * (y 0 : ℕ) + (y 1 : ℕ)) = 2 * (2 * (y 0 : ℕ) + (y 1 : ℕ)) - 575 :=
        (if_neg (by omega)).trans (if_neg (by omega))
      exact tRows_at arg2 harg2 arg3 harg3 arg13 x1 x2 j _ 1 rfl inb' c _ _ _
        (by show _ = source _; have := c.isLt; omega) h2.symm
  idx_vars i
  exact key

theorem weights_canon : View.canon (wPieces (F := Ideal) arg2 harg2 arg3 harg3 arg13 x1 x2) = table x1 x2 := by
  funext y
  refine View.canon_apply_of_pieces (Val := Elt Ideal) (S := S288x2x3584) (e := .bf16) (table x1 x2) _ (fun p hp i => ?_) y ?_
  · obtain ⟨l, hl, hpl⟩ := List.mem_flatten.1 hp
    obtain ⟨k, rfl⟩ := (List.mem_ofFn' _ _).1 hl
    simp only [List.mem_cons, List.not_mem_nil, or_false] at hpl
    rcases hpl with rfl | rfl | rfl | rfl | rfl
    · exact rope_tile arg2 harg2 arg3 harg3 arg13 x1 x2 _ i _ (by show 64 * (4 % 5) + 1 * (i 0 : ℕ) = _; omega)
        (by show 0 + 1 * (i 1 : ℕ) = _; omega) (by show 128 * _ + 1 * (i 2 : ℕ) = _; omega) _ _
    all_goals
      exact weight_tile arg2 harg2 arg3 harg3 x1 x2 _ _ _ i _ (by show 64 * _ + 1 * (i 0 : ℕ) = _; omega)
        (by show 0 + 1 * (i 1 : ℕ) = _; omega) (by show 128 * _ + 1 * (i 2 : ℕ) = _; omega)
  · have e0 : (y 0 : ℕ) < 288 := (y 0).isLt
    have e1 : (y 1 : ℕ) < 2 := (y 1).isLt
    have e2 : (y 2 : ℕ) < 3584 := (y 2).isLt
    have hj : (27 - (27 - (y 2 : ℕ) / 128)) = (y 2 : ℕ) / 128 := by omega
    have in64 : ∀ (r : ℕ) (h : r < 4), 64 * r ≤ (y 0 : ℕ) → (y 0 : ℕ) < 64 * r + 64 →
        y ∈ (Rect.unit (s := S288x2x3584) (offW r (27 - (27 - (y 2 : ℕ) / 128))) ![64, 2, 128] (inbW r _ h)).set := by
      intro r h hl hr
      rw [Rect.mem_set_unit, hj]
      intro a; fin_cases a
      · show 64 * (r % 5) ≤ (y 0 : ℕ) ∧ (y 0 : ℕ) < 64 * (r % 5) + 64; omega
      · show 0 ≤ (y 1 : ℕ) ∧ (y 1 : ℕ) < 0 + 2; omega
      · show 128 * ((y 2 : ℕ) / 128 % 28) ≤ (y 2 : ℕ) ∧ (y 2 : ℕ) < 128 * ((y 2 : ℕ) / 128 % 28) + 128; omega
    unfold wPieces
    by_cases h4 : 256 ≤ (y 0 : ℕ)
    · refine ⟨_, List.mem_flatten.2 ⟨_, (List.mem_ofFn' _ _).2 ⟨⟨27 - (y 2 : ℕ) / 128, by omega⟩, rfl⟩,
            List.mem_cons_self ..⟩, ?_⟩
      show y ∈ (Rect.unit (s := S288x2x3584) (offW 4 (27 - (27 - (y 2 : ℕ) / 128))) ![32, 2, 128] (inbV _)).set
      rw [Rect.mem_set_unit, hj]
      intro a; fin_cases a
      · show 64 * (4 % 5) ≤ (y 0 : ℕ) ∧ (y 0 : ℕ) < 64 * (4 % 5) + 32; omega
      · show 0 ≤ (y 1 : ℕ) ∧ (y 1 : ℕ) < 0 + 2; omega
      · show 128 * ((y 2 : ℕ) / 128 % 28) ≤ (y 2 : ℕ) ∧ (y 2 : ℕ) < 128 * ((y 2 : ℕ) / 128 % 28) + 128; omega
    · by_cases h3 : 192 ≤ (y 0 : ℕ)
      · exact ⟨_, List.mem_flatten.2 ⟨_, (List.mem_ofFn' _ _).2 ⟨⟨27 - (y 2 : ℕ) / 128, by omega⟩, rfl⟩,
            List.mem_cons_of_mem _ (List.mem_cons_self ..)⟩, in64 3 (by omega) (by omega) (by omega)⟩
      · by_cases h2 : 128 ≤ (y 0 : ℕ)
        · exact ⟨_, List.mem_flatten.2 ⟨_, (List.mem_ofFn' _ _).2 ⟨⟨27 - (y 2 : ℕ) / 128, by omega⟩, rfl⟩,
            List.mem_cons_of_mem _ (List.mem_cons_of_mem _ (List.mem_cons_self ..))⟩,
            in64 2 (by omega) (by omega) (by omega)⟩
        · by_cases h1 : 64 ≤ (y 0 : ℕ)
          · exact ⟨_, List.mem_flatten.2 ⟨_, (List.mem_ofFn' _ _).2 ⟨⟨27 - (y 2 : ℕ) / 128, by omega⟩, rfl⟩,
            List.mem_cons_of_mem _ (List.mem_cons_of_mem _ (List.mem_cons_of_mem _ (List.mem_cons_self ..)))⟩,
              in64 1 (by omega) (by omega) (by omega)⟩
          · exact ⟨_, List.mem_flatten.2 ⟨_, (List.mem_ofFn' _ _).2 ⟨⟨27 - (y 2 : ℕ) / 128, by omega⟩, rfl⟩,
            List.mem_cons_of_mem _ (List.mem_cons_of_mem _ (List.mem_cons_of_mem _ (List.mem_cons_of_mem _
              (List.mem_cons_self ..))))⟩, in64 0 (by omega) (by omega) (by omega)⟩

end W

section Gamma

variable (arg4 : Memref sig .tc .vmem S1x512 .bf16) (harg4 : arg4.IsWhole) (x3 : Vec Ideal S1x512 .bf16)

/-- The buffer of `gamma`: every row is one value. -/
def rows (x3 : Vec Ideal S1x512 .bf16) (y : S512x128.Idx) : EReal := x3 (ix2 0 (y 0))

theorem gamma_canon : View.canon (gPieces (F := Ideal) arg4 harg4 x3) = rows x3 := by
  funext y
  have hv : (arg4.view.readAt (Elt Ideal) (Rect.unit ![0, 0] S1x512.size inb_S1x512_S1x512_0_0).toLoadRect (harg4.unread x3) :
      Vec Ideal S1x512 .bf16) = x3 := by
    rw [View.readAt_eq_ld, harg4.read_unread]
    exact View.ld_unit_zero (by funext a; fin_cases a <;> rfl) _ _
  unfold gPieces
  rw [hv]
  refine View.canon_apply_of_pieces (Val := Elt Ideal) (S := S512x128) (e := .f32) (rows x3) _ (fun p hp i => ?_) y ?_
  · simp only [List.mem_cons, List.not_mem_nil, or_false] at hp
    rcases hp with rfl | rfl | rfl | rfl
    · have h : k0_pay284 (F := Ideal) (k0_pay279 x3) (ix2 (i 0) (i 1)) = _ :=
        gamma3_at x3 (i 0) (i 1) ⟨384 + 1 * (i 0 : ℕ), by have : (i 0 : ℕ) < 128 := (i 0).isLt; omega⟩ (by show 384 + 1 * _ = _; omega)
      idx_vars i
      exact h
    · have h : k0_pay283 (F := Ideal) (k0_pay279 x3) (ix2 (i 0) (i 1)) = _ :=
        gamma2_at x3 (i 0) (i 1) ⟨256 + 1 * (i 0 : ℕ), by have : (i 0 : ℕ) < 128 := (i 0).isLt; omega⟩ (by show 256 + 1 * _ = _; omega)
      idx_vars i
      exact h
    · have h : k0_pay282 (F := Ideal) (k0_pay281 x3) (ix2 (i 0) (i 1)) = _ :=
        gamma1_at x3 (i 0) (i 1) ⟨128 + 1 * (i 0 : ℕ), by have : (i 0 : ℕ) < 128 := (i 0).isLt; omega⟩ (by show 128 + 1 * _ = _; omega)
      idx_vars i
      exact h
    · have h : k0_pay280 (F := Ideal) x3 (ix2 (i 0) (i 1)) = _ :=
        gamma0_at x3 (i 0) (i 1) ⟨0 + 1 * (i 0 : ℕ), by have : (i 0 : ℕ) < 128 := (i 0).isLt; omega⟩ (by show 0 + 1 * _ = _; omega)
      idx_vars i
      exact h
  · have e0 : (y 0 : ℕ) < 512 := (y 0).isLt
    have e1 : (y 1 : ℕ) < 128 := (y 1).isLt
    have inside : ∀ (o : ℕ) (inb), o ≤ (y 0 : ℕ) → (y 0 : ℕ) < o + 128 →
        y ∈ (Rect.unit (s := S512x128) ![o, 0] S128x128.size inb).set := by
      intro o inb hl hr
      rw [Rect.mem_set_unit]
      intro a; fin_cases a
      · exact ⟨hl, hr⟩
      · show 0 ≤ (y 1 : ℕ) ∧ (y 1 : ℕ) < 0 + 128; omega
    by_cases h3 : 384 ≤ (y 0 : ℕ)
    · exact ⟨_, List.mem_cons_self .., inside 384 inb_S512x128_S128x128_384_0 (by omega) (by omega)⟩
    · by_cases h2 : 256 ≤ (y 0 : ℕ)
      · exact ⟨_, List.mem_cons_of_mem _ (List.mem_cons_self ..), inside 256 inb_S512x128_S128x128_256_0 (by omega) (by omega)⟩
      · by_cases h1 : 128 ≤ (y 0 : ℕ)
        · exact ⟨_, List.mem_cons_of_mem _ (List.mem_cons_of_mem _ (List.mem_cons_self ..)), inside 128 inb_S512x128_S128x128_128_0 (by omega) (by omega)⟩
        · exact ⟨_, List.mem_cons_of_mem _ (List.mem_cons_of_mem _ (List.mem_cons_of_mem _ (List.mem_cons_self ..))),
            inside 0 inb_S512x128_S128x128_0_0 (by omega) (by omega)⟩

end Gamma

section Rows

variable (arg1 : Memref sig .tc .vmem S8x128x3584 .bf16) (harg1 : arg1.IsWhole) (x : Vec Ideal S8x128x3584 .bf16)
  (arg14 : Memref sig .tc .vmem S1792x2x1024 .bf16) (x1 : Vec Ideal S576x3584 .fp8e4m3) (x2 : Vec Ideal S5x28 .f32)

/-- The product of row `n` of the weights with token `t` of batch `b`. -/
def dot (x : Vec Ideal S8x128x3584 .bf16) (x1 : Vec Ideal S576x3584 .fp8e4m3) (x2 : Vec Ideal S5x28 .f32) (b : Fin 8)
    (t : Fin 128) (n : Fin 576) : EReal :=
  ∑ k : Fin 3584, wgt x1 x2 n k * deq x b t k

theorem dot_at (b : Fin 8) (m n : Fin 576) (t : Fin 128) (hn : source m = n) :
    Stores.prod (F := Ideal) (table x1 x2) (dq arg1 harg1 arg14 x ((b : ℕ) / 2)) b (ix2 m t) = dot x x1 x2 b t n := by
  rw [product_at]
  refine Finset.sum_congr rfl fun k _ => congrArg (fun a : EReal => a * _) ?_
  have h : (⟨source (2 * ((m : ℕ) / 2) + (m : ℕ) % 2), source_lt _ (by omega)⟩ : Fin 576) = n :=
    Fin.ext (by show source _ = _; rw [← hn]; congr 1; omega)
  exact congrArg (fun n => wgt x1 x2 n k) h

/-- The normalised rows of a token. -/
def normed (x : Vec Ideal S8x128x3584 .bf16) (x1 : Vec Ideal S576x3584 .fp8e4m3) (x2 : Vec Ideal S5x28 .f32)
    (x3 : Vec Ideal S1x512 .bf16) (b : Fin 8) (t : Fin 128) (n : Fin 512) : EReal :=
  dot x x1 x2 b t ⟨n, by omega⟩ *
    Ideal.rsqrt ((∑ k : Fin 512, dot x x1 x2 b t ⟨k, by omega⟩ * dot x x1 x2 b t ⟨k, by omega⟩) * Ideal.ofBits .f32 989855744#32 +
      Ideal.ofBits .f32 897988541#32) * x3 (ix2 0 n)

theorem low (n : Fin 512) : source (⟨n, by omega⟩ : Fin 576) = (⟨n, by omega⟩ : Fin 576) := if_pos n.isLt

theorem normed_at (x3 : Vec Ideal S1x512 .bf16) (b : Fin 8) (t : Fin 128) (n : Fin 512) :
    View.canon (nPieces (F := Ideal) arg1 harg1 arg14 x (table x1 x2) (rows x3)) (ix3 b t n) = normed x x1 x2 x3 b t n := by
  unfold nPieces
  refine View.canon_ofFn_unit_eq_of_forall (Val := Elt Ideal) (S := S8x128x512) (e := .bf16) (fun k : Fin 8 => offB (7 - k)) ![1, 128, 512]
    (fun k => inbC _) _ _ _ ⟨⟨7 - (b : ℕ), by omega⟩, fun a => ?_⟩ fun k i hi => ?_
  · have h : 7 - (7 - (b : ℕ)) = b := by omega
    fin_cases a
    · show (7 - (7 - (b : ℕ))) % 8 ≤ (b : ℕ) ∧ (b : ℕ) < (7 - (7 - (b : ℕ))) % 8 + 1
      rw [h]; omega
    · show 0 ≤ (t : ℕ) ∧ (t : ℕ) < 0 + 128; omega
    · show 0 ≤ (n : ℕ) ∧ (n : ℕ) < 0 + 512; omega
  · have h0 : (b : ℕ) = (7 - (k : ℕ)) % 8 + (i 0 : ℕ) := hi 0
    have h1 : (t : ℕ) = 0 + (i 1 : ℕ) := hi 1
    have h2 : (n : ℕ) = 0 + (i 2 : ℕ) := hi 2
    have e0 : (i 0 : ℕ) < 1 := (i 0).isLt
    have hk : 7 - (k : ℕ) = b := by omega
    have ht : i 1 = t := Fin.ext (by omega)
    have hn : i 2 = n := Fin.ext (by omega)
    subst ht hn
    have key : norm (F := Ideal) (table x1 x2) (dq arg1 harg1 arg14 x ((7 - (k : ℕ)) / 2)) (rows x3) (7 - (k : ℕ))
        (ix3 (i 0) (i 1) (i 2)) = normed x x1 x2 x3 b (i 1) (i 2) := by
      rw [hk]
      refine (norm_at _ _ (i 0) (i 1) (i 2)).trans ?_
      unfold normed
      refine congrArg₂ (fun a c : EReal => a * c) (congrArg₂ (fun a c : EReal => a * c)
        (dot_at arg1 harg1 x arg14 x1 x2 b _ _ _ (low _)) (congrArg (fun a : EReal => Ideal.rsqrt (a * _ + _))
          (Finset.sum_congr rfl fun k _ => ?_))) rfl
      exact congrArg₂ (fun a c : EReal => a * c) (dot_at arg1 harg1 x arg14 x1 x2 b _ _ _ (low k))
        (dot_at arg1 harg1 x arg14 x1 x2 b _ _ _ (low k))
    idx_vars i
    exact key

/-- The rotated rows of a token at position 0. -/
theorem rotated_at (arg5 : Memref sig .tc .vmem S8x128 .i32) (harg5 : arg5.IsWhole) (arg6 : Memref sig .tc .vmem S32x128 .f32)
    (harg6 : arg6.IsWhole) (x4 : Vec Ideal S8x128 .i32) (x5 : Vec Ideal S32x128 .f32) (b : Fin 8) (n : Fin 64) (t : Fin 128)
    (hp : x4 (ix2 b t) = 0#32) :
    View.canon (kPieces (F := Ideal) arg1 harg1 arg5 harg5 arg6 harg6 arg14 x x4 x5 (table x1 x2)) (ix3 b n t) =
      dot x x1 x2 b t ⟨512 + (n : ℕ), by omega⟩ := by
  unfold kPieces
  refine View.canon_ofFn_unit_eq_of_forall (Val := Elt Ideal) (S := S8x64x128) (e := .bf16) (fun k : Fin 8 => offB (7 - k)) ![1, 64, 128]
    (fun k => inbK _) _ _ _ ⟨⟨7 - (b : ℕ), by omega⟩, fun a => ?_⟩ fun k i hi => ?_
  · have h : 7 - (7 - (b : ℕ)) = b := by omega
    fin_cases a
    · show (7 - (7 - (b : ℕ))) % 8 ≤ (b : ℕ) ∧ (b : ℕ) < (7 - (7 - (b : ℕ))) % 8 + 1
      rw [h]; omega
    · show 0 ≤ (n : ℕ) ∧ (n : ℕ) < 0 + 64; omega
    · show 0 ≤ (t : ℕ) ∧ (t : ℕ) < 0 + 128; omega
  · have h0 : (b : ℕ) = (7 - (k : ℕ)) % 8 + (i 0 : ℕ) := hi 0
    have h1 : (n : ℕ) = 0 + (i 1 : ℕ) := hi 1
    have h2 : (t : ℕ) = 0 + (i 2 : ℕ) := hi 2
    have e0 : (i 0 : ℕ) < 1 := (i 0).isLt
    have hk : 7 - (k : ℕ) = b := by omega
    have hn : i 1 = n := Fin.ext (by omega)
    have ht : i 2 = t := Fin.ext (by omega)
    subst ht hn
    have hpos : pos (F := Ideal) arg5 harg5 x4 b (ix2 0 (i 2)) = 0#32 := by
      refine Eq.trans ?_ hp
      unfold pos
      rw [View.readAt_eq_ld, harg5.read_unread]
      refine View.ld_unit_apply_of _ _ _ _ _ _ fun a => ?_
      fin_cases a
      · show (b : ℕ) = (b : ℕ) % 8 + 0; omega
      · show (i 2 : ℕ) = 0 + (i 2 : ℕ); omega
    have key : rope (F := Ideal) (table x1 x2) (dq arg1 harg1 arg14 x ((7 - (k : ℕ)) / 2)) (pos arg5 harg5 x4 (7 - (k : ℕ)))
        (freq arg6 harg6 x5) (7 - (k : ℕ)) (ix3 (i 0) (i 1) (i 2)) = dot x x1 x2 b (i 2) ⟨512 + (i 1 : ℕ), by omega⟩ := by
      rw [hk]
      refine (rope_at _ _ _ (i 0) (i 1) (i 2) hpos).trans ?_
      have e1 : (i 1 : ℕ) < 64 := (i 1).isLt
      split
      · have hs : source (512 + (i 1 : ℕ) / 2) = 2 * (512 + (i 1 : ℕ) / 2) - 512 := (if_neg (by omega)).trans (if_pos (by omega))
        exact dot_at arg1 harg1 x arg14 x1 x2 b _ _ _ (hs.trans (by show _ = 512 + (i 1 : ℕ); omega))
      · have hs : source (544 + (i 1 : ℕ) / 2) = 2 * (544 + (i 1 : ℕ) / 2) - 575 := (if_neg (by omega)).trans (if_neg (by omega))
        exact dot_at arg1 harg1 x arg14 x1 x2 b _ _ _ (hs.trans (by show _ = 512 + (i 1 : ℕ); omega))
    idx_vars i
    exact key

end Rows

end Cert.KernelIdeal.Weights

end
-- ==== Proof.Outs.lean ====
import proofs.«01_k».proof.Proof.Weights
import proofs.«01_k».proof.Proof.Gen.KernelIdeal.Value
import Idealize.ShloMosaic.Lib.Claim

/-!
What the kernel leaves in its result arrays, at an index.
-/

set_option maxRecDepth 16384

noncomputable section

namespace Cert.KernelIdeal.Outs

open Idealize.ShloMosaic Idealize.ShloMosaic.TcCoe Cert.KernelIdeal.Gen Cert.KernelIdeal.Value Cert.Scale
open Cert.KernelIdeal.Stores Cert.KernelIdeal.Block Cert.KernelIdeal.Tiles Cert.KernelIdeal.Weights

variable (m : (ℓ : Loc nD τ sig) → Buf (Elt Ideal) ℓ)

/-- The argument arrays, at their shapes. -/
def hid (c : Dev nD) : Vec Ideal S8x4096x3584 .bf16 := m ((c : Thread nD τ).loc main_arg0)
def wts (c : Dev nD) : Vec Ideal S576x3584 .fp8e4m3 := m ((c : Thread nD τ).loc main_arg1)
def scl (c : Dev nD) : Vec Ideal S5x28 .f32 := m ((c : Thread nD τ).loc main_arg2)
def gam (c : Dev nD) : Vec Ideal S512 .bf16 := m ((c : Thread nD τ).loc main_arg3)
def psn (c : Dev nD) : Vec Ideal S8x4096 .i32 := m ((c : Thread nD τ).loc main_arg4)

theorem idx : ∀ t : Fin cfg0.N, win0_0.index t = ![0, t.val, 0] ∧ win0_1.index t = ![0, 0] ∧ win0_2.index t = ![0, 0] ∧
    win0_3.index t = ![0, 0] ∧ win0_4.index t = ![0, t.val] :=
  (by decide +kernel : ∀ t : Fin grid0.N, _)

theorem lt_N (t : Fin cfg0.N) : t.val < 32 := lt_of_lt_of_eq t.isLt N_0

/-- Token `r` of the block of point `t`. -/
def tok (t : Fin cfg0.N) (r : Fin 128) : Fin 4096 := ⟨128 * t.val + (r : ℕ), by have := lt_N t; omega⟩

def blk0 (c : Dev nD) (t : Fin cfg0.N) : Vec Ideal S8x128x3584 .bf16 := iblk m c 0 t
def blk3 (c : Dev nD) (t : Fin cfg0.N) : Vec Ideal S1x512 .bf16 := iblk m c 3 t
def blk4 (c : Dev nD) (t : Fin cfg0.N) : Vec Ideal S8x128 .i32 := iblk m c 4 t
def blk5 (c : Dev nD) (t : Fin cfg0.N) : Vec Ideal S32x128 .f32 := iblk m c 5 t

theorem blk0_at (c : Dev nD) (t : Fin cfg0.N) (b : Fin 8) (r : Fin 128) (k : Fin 3584) :
    blk0 m c t (ix3 b r k) = hid m c (ix3 b (tok t r) k) := by
  obtain ⟨h0, -⟩ := idx t
  unfold blk0 hid tok
  blk_ext [iblk, V, h0]

theorem blk1_eq (c : Dev nD) (t : Fin cfg0.N) : (iblk m c 1 t : Vec Ideal S576x3584 .fp8e4m3) = wts m c := by
  obtain ⟨-, h1, -⟩ := idx t
  unfold wts
  blk_ext! [iblk, V, h1]

theorem blk2_eq (c : Dev nD) (t : Fin cfg0.N) : (iblk m c 2 t : Vec Ideal S5x28 .f32) = scl m c := by
  obtain ⟨-, -, h2, -⟩ := idx t
  unfold scl
  blk_ext! [iblk, V, h2]

theorem blk3_at (c : Dev nD) (t : Fin cfg0.N) (n : Fin 512) : blk3 m c t (ix2 0 n) = gam m c (ix1 n) := by
  obtain ⟨-, -, -, h3, -⟩ := idx t
  unfold blk3 gam
  blk_simp [iblk, h3]
  entry_read
  pointwise
  blk_ext [h3]

theorem blk4_at (c : Dev nD) (t : Fin cfg0.N) (b : Fin 8) (r : Fin 128) :
    blk4 m c t (ix2 b r) = psn m c (ix2 b (tok t r)) := by
  obtain ⟨-, -, -, -, h4⟩ := idx t
  unfold blk4 psn tok
  blk_ext [iblk, V, h4]

/-- The buffer of `gamma` is the same at every point. -/
theorem rows_eq (c : Dev nD) (t t' : Fin cfg0.N) : rows (blk3 m c t) = rows (blk3 m c t') := by
  funext y
  exact (blk3_at m c t (y 0)).trans (blk3_at m c t' (y 0)).symm

/-- The first point. -/
def first : Fin cfg0.N := ⟨0, lt_of_lt_of_eq (by decide) N_0.symm⟩

/-- After every point the buffer of the weights holds the weights, and the buffer of `gamma` holds `gamma`. -/
theorem held (c : Dev nD) : ∀ (n : ℕ) (hn : n < cfg0.N), (outsAt0 m c n hn).2.2.2.2.1 = table (wts m c) (scl m c) ∧
    (outsAt0 m c n hn).2.2.2.2.2 = rows (blk3 m c first)
  | 0, hn => by
    rw [outsAt0_A m c ⟨0, hn⟩ rfl]
    constructor
    · dsimp only
      unfold sout0_A_0
      refine (View.read_writes_eq_canon _ _ _ (fun y => by apply scover0_A_0)).trans ?_
      rw [storesW_A, weights_canon, blk1_eq, blk2_eq]
    · dsimp only
      unfold sout0_A_1
      refine (View.read_writes_eq_canon _ _ _ (fun y => by apply scover0_A_1)).trans ?_
      rw [storesG_A]
      exact gamma_canon _ _ (blk3 m c first)
  | n + 1, hn => by
    have h0 : ¬(n + 1) % 32 = 0 := by have := lt_of_lt_of_eq hn N_0; omega
    rw [outsAt0_B m c ⟨n + 1, hn⟩ h0]
    exact held c n (Nat.lt_of_succ_lt hn)

/-- The scales a point leaves. -/
theorem outs9 (c : Dev nD) (t : Fin cfg0.N) :
    (outsAt0 m c t.val t.isLt).2.2.2.1 = View.canon (sPieces (F := Ideal) (ms0_0 t) (hs0_0 t) (blk0 m c t)) := by
  by_cases h0 : t.val % 32 = 0
  · rw [outsAt0_A m c t h0]
    dsimp only
    unfold out0_A_9
    refine (View.read_writes_eq_canon _ _ _ (fun y => by apply cover0_A_9)).trans ?_
    rw [stores9_A]
    rfl
  · rw [outsAt0_B m c t h0]
    dsimp only
    unfold out0_B_9
    refine (View.read_writes_eq_canon _ _ _ (fun y => by apply cover0_B_9)).trans ?_
    rw [stores9_B]
    rfl

/-- The codes a point leaves. -/
theorem outs8 (c : Dev nD) (t : Fin cfg0.N) :
    (outsAt0 m c t.val t.isLt).2.2.1 = View.canon (cPieces (F := Ideal) (ms0_0 t) (hs0_0 t) (blk0 m c t)) := by
  by_cases h0 : t.val % 32 = 0
  · rw [outsAt0_A m c t h0]
    dsimp only
    unfold out0_A_8
    refine (View.read_writes_eq_canon _ _ _ (fun y => by apply cover0_A_8)).trans ?_
    rw [stores8_A]
    rfl
  · rw [outsAt0_B m c t h0]
    dsimp only
    unfold out0_B_8
    refine (View.read_writes_eq_canon _ _ _ (fun y => by apply cover0_B_8)).trans ?_
    rw [stores8_B]
    rfl

theorem zero3 : (![0, 0, 0] : Fin 3 → ℕ) = fun _ => 0 := by funext a; fin_cases a <;> rfl

theorem zero2 : (![0, 0] : Fin 2 → ℕ) = fun _ => 0 := by funext a; fin_cases a <;> rfl

/-- The weights the first point reads back. -/
theorem fresh (c : Dev nD) (t : Fin cfg0.N) :
    scM0_0.view.readCov (wPieces (F := Ideal) (ms0_1 t) (hs0_1 t) (ms0_2 t) (hs0_2 t) scM0_2 (iblk m c 1 t) (iblk m c 2 t))
      (Rect.unit ![0, 0, 0] S288x2x3584.size inb_S288x2x3584_S288x2x3584_0_0_0).toLoadRect = table (wts m c) (scl m c) := by
  rw [View.readCov_eq_canon', weights_canon, blk1_eq, blk2_eq]
  exact View.ld_unit_zero (Val := Elt Ideal) (S := S288x2x3584) (e := .bf16) zero3 _ _

/-- The `gamma` the first point reads back. -/
theorem fresh_gamma (c : Dev nD) (t : Fin cfg0.N) :
    scM0_1.view.readCov (gPieces (F := Ideal) (ms0_3 t) (hs0_3 t) (blk3 m c t))
      (Rect.unit ![0, 0] S512x128.size inb_S512x128_S512x128_0_0).toLoadRect = rows (blk3 m c t) := by
  rw [View.readCov_eq_canon', gamma_canon]
  exact View.ld_unit_zero (Val := Elt Ideal) (S := S512x128) (e := .f32) zero2 _ _

/-- The weights a later point reads. -/
theorem kept (h : scM0_0.IsWhole) (w : Vec Ideal S288x2x3584 .bf16) :
    scM0_0.view.readAt (Elt Ideal) (Rect.unit ![0, 0, 0] S288x2x3584.size inb_S288x2x3584_S288x2x3584_0_0_0).toLoadRect (h.unread w) = w := by
  rw [View.readAt_eq_ld, h.read_unread]
  exact View.ld_unit_zero (Val := Elt Ideal) (S := S288x2x3584) (e := .bf16) zero3 _ _

/-- The `gamma` a later point reads. -/
theorem kept_gamma (h : scM0_1.IsWhole) (g : Vec Ideal S512x128 .f32) :
    scM0_1.view.readAt (Elt Ideal) (Rect.unit ![0, 0] S512x128.size inb_S512x128_S512x128_0_0).toLoadRect (h.unread g) = g := by
  rw [View.readAt_eq_ld, h.read_unread]
  exact View.ld_unit_zero (Val := Elt Ideal) (S := S512x128) (e := .f32) zero2 _ _

/-- The normalised rows a point leaves. -/
theorem outs6 (c : Dev nD) (t : Fin cfg0.N) : (outsAt0 m c t.val t.isLt).1 =
    View.canon (nPieces (F := Ideal) (ms0_0 t) (hs0_0 t) scM0_3 (blk0 m c t) (table (wts m c) (scl m c)) (rows (blk3 m c t))) := by
  by_cases h0 : t.val % 32 = 0
  · rw [outsAt0_A m c t h0]
    dsimp only
    unfold out0_A_6
    refine (View.read_writes_eq_canon _ _ _ (fun y => by apply cover0_A_6)).trans ?_
    rw [stores6_A, fresh]
    exact congrArg (fun g => View.canon (nPieces (F := Ideal) _ _ _ _ _ g)) (fresh_gamma m c t)
  · rw [outsAt0_B m c t h0]
    dsimp only
    unfold out0_B_6
    refine (View.read_writes_eq_canon _ _ _ (fun y => by apply cover0_B_6)).trans ?_
    rw [stores6_B, kept, kept_gamma, (held m c _ _).1, (held m c _ _).2, rows_eq m c first t]
    rfl

/-- The rotated rows a point leaves. -/
theorem outs7 (c : Dev nD) (t : Fin cfg0.N) : (outsAt0 m c t.val t.isLt).2.1 =
    View.canon (kPieces (F := Ideal) (ms0_0 t) (hs0_0 t) (ms0_4 t) (hs0_4 t) (ms0_5 t) (hs0_5 t) scM0_3 (blk0 m c t) (blk4 m c t) (blk5 m c t)
      (table (wts m c) (scl m c))) := by
  by_cases h0 : t.val % 32 = 0
  · rw [outsAt0_A m c t h0]
    dsimp only
    unfold out0_A_7
    refine (View.read_writes_eq_canon _ _ _ (fun y => by apply cover0_A_7)).trans ?_
    rw [stores7_A, fresh]
    rfl
  · rw [outsAt0_B m c t h0]
    dsimp only
    unfold out0_B_7
    refine (View.read_writes_eq_canon _ _ _ (fun y => by apply cover0_B_7)).trans ?_
    rw [stores7_B, kept, (held m c _ _).1]
    rfl

end Cert.KernelIdeal.Outs

end
-- ==== Proof.Result.lean ====
import proofs.«01_k».proof.Proof.Outs

/-!
The kernel's result arrays, at an index, over the argument arrays.
-/

set_option maxRecDepth 16384

noncomputable section

namespace Cert.KernelIdeal.Result

open Idealize.ShloMosaic Idealize.ShloMosaic.TcCoe Cert.KernelIdeal.Gen Cert.KernelIdeal.Value Cert.Scale
open Cert.KernelIdeal.Stores Cert.KernelIdeal.Block Cert.KernelIdeal.Tiles Cert.KernelIdeal.Weights Cert.KernelIdeal.Outs

/-- The level of group `j` of token `T` of batch `b`. -/
def levA (x : Vec Ideal S8x4096x3584 .bf16) (b : Fin 8) (T : Fin 4096) (j : Fin 28) : EReal :=
  level fun c => x (ix3 b T (chan j c))

/-- The dequantised code of channel `k`. -/
def deqA (x : Vec Ideal S8x4096x3584 .bf16) (b : Fin 8) (T : Fin 4096) (k : Fin 3584) : EReal :=
  code (levA x b T (grp k)) (x (ix3 b T k)) * Ideal.ofBits .f32 (scaleWord (levA x b T (grp k)))

/-- The product of row `n` of the weights with token `T` of batch `b`. -/
def dotA (x : Vec Ideal S8x4096x3584 .bf16) (w : Vec Ideal S576x3584 .fp8e4m3) (s : Vec Ideal S5x28 .f32) (b : Fin 8)
    (T : Fin 4096) (n : Fin 576) : EReal :=
  ∑ k : Fin 3584, wgt w s n k * deqA x b T k

variable (m : (ℓ : Loc nD τ sig) → Buf (Elt Ideal) ℓ)

theorem lev_blk (c : Dev nD) (t : Fin cfg0.N) (b : Fin 8) (r : Fin 128) (T : Fin 4096) (hT : tok t r = T) (j : Fin 28) :
    lev (blk0 m c t) b r j = levA (hid m c) b T j := by
  subst hT
  exact congrArg level (funext fun k => blk0_at m c t b r _)

theorem deq_blk (c : Dev nD) (t : Fin cfg0.N) (b : Fin 8) (r : Fin 128) (T : Fin 4096) (hT : tok t r = T) (k : Fin 3584) :
    deq (blk0 m c t) b r k = deqA (hid m c) b T k := by
  unfold deq deqA
  rw [lev_blk m c t b r T hT, blk0_at, hT]

theorem dot_blk (c : Dev nD) (t : Fin cfg0.N) (b : Fin 8) (r : Fin 128) (T : Fin 4096) (hT : tok t r = T) (n : Fin 576) :
    dot (blk0 m c t) (wts m c) (scl m c) b r n = dotA (hid m c) (wts m c) (scl m c) b T n :=
  Finset.sum_congr rfl fun k _ => congrArg (_ * ·) (deq_blk m c t b r T hT k)

/-- The result of scales. -/
theorem result9 (c : Dev nD) (j : Fin 28) (b : Fin 8) (T : Fin 4096) :
    (G9 m c : Vec Ideal S28x8x4096 .f32) (ix3 j b T) = Ideal.ofBits .f32 (scaleWord (levA (hid m c) b T j)) := by
  have hp : pt9Of (ix3 j b T) = (T : ℕ) / 128 := by
    show 32 * ((j : ℕ) / 28 - 0) + 32 * ((b : ℕ) / 8 - 0) + 1 * ((T : ℕ) / 128 - 0) = (T : ℕ) / 128; omega
  have hN : pt9Of (ix3 j b T) < cfg0.N := lt_of_lt_of_eq (by rw [hp]; omega) N_0.symm
  have hl : loc9Of (ix3 j b T) = ix3 j b (⟨(T : ℕ) % 128, by omega⟩ : Fin 128) := by
    funext a; refine Fin.ext ?_
    fin_cases a
    · show (j : ℕ) % 28 = (j : ℕ); omega
    · show (b : ℕ) % 8 = (b : ℕ); omega
    · rfl
  unfold G9
  refine (dif_pos hN).trans ?_
  rw [← outsAt0_sweep m c _ hN, hl, outs9 m c ⟨_, hN⟩, scales_at, lev_blk]
  exact Fin.ext (by show 128 * pt9Of (ix3 j b T) + (T : ℕ) % 128 = (T : ℕ); rw [hp]; omega)

/-- The result of codes. -/
theorem result8 (c : Dev nD) (b : Fin 8) (T : Fin 4096) (k : Fin 3584) :
    (G8 m c : Vec Ideal S8x4096x3584 .fp8e4m3) (ix3 b T k) = code (levA (hid m c) b T (grp k)) (hid m c (ix3 b T k)) := by
  have hp : pt8Of (ix3 b T k) = (T : ℕ) / 128 := by
    show 32 * ((b : ℕ) / 8 - 0) + 1 * ((T : ℕ) / 128 - 0) + 1 * ((k : ℕ) / 3584 - 0) = (T : ℕ) / 128; omega
  have hN : pt8Of (ix3 b T k) < cfg0.N := lt_of_lt_of_eq (by rw [hp]; omega) N_0.symm
  have hl : loc8Of (ix3 b T k) = ix3 b (⟨(T : ℕ) % 128, by omega⟩ : Fin 128) k := by
    funext a; refine Fin.ext ?_
    fin_cases a
    · show (b : ℕ) % 8 = (b : ℕ); omega
    · rfl
    · show (k : ℕ) % 3584 = (k : ℕ); omega
  have ht : tok ⟨pt8Of (ix3 b T k), hN⟩ ⟨(T : ℕ) % 128, by omega⟩ = T :=
    Fin.ext (by show 128 * pt8Of (ix3 b T k) + (T : ℕ) % 128 = (T : ℕ); rw [hp]; omega)
  unfold G8
  refine (dif_pos hN).trans ?_
  rw [← outsAt0_sweep m c _ hN, hl, outs8 m c ⟨_, hN⟩, codes_at, lev_blk m c _ b _ T ht, blk0_at, ht]

/-- The result of normalised rows. -/
theorem result6 (c : Dev nD) (b : Fin 8) (T : Fin 4096) (n : Fin 512) :
    (G6 m c : Vec Ideal S8x4096x512 .bf16) (ix3 b T n) =
      dotA (hid m c) (wts m c) (scl m c) b T ⟨n, by omega⟩ *
        Ideal.rsqrt ((∑ k : Fin 512, dotA (hid m c) (wts m c) (scl m c) b T ⟨k, by omega⟩ *
          dotA (hid m c) (wts m c) (scl m c) b T ⟨k, by omega⟩) * Ideal.ofBits .f32 989855744#32 + Ideal.ofBits .f32 897988541#32) *
        gam m c (ix1 n) := by
  have hp : pt6Of (ix3 b T n) = (T : ℕ) / 128 := by
    show 32 * ((b : ℕ) / 8 - 0) + 1 * ((T : ℕ) / 128 - 0) + 1 * ((n : ℕ) / 512 - 0) = (T : ℕ) / 128; omega
  have hN : pt6Of (ix3 b T n) < cfg0.N := lt_of_lt_of_eq (by rw [hp]; omega) N_0.symm
  have hl : loc6Of (ix3 b T n) = ix3 b (⟨(T : ℕ) % 128, by omega⟩ : Fin 128) n := by
    funext a; refine Fin.ext ?_
    fin_cases a
    · show (b : ℕ) % 8 = (b : ℕ); omega
    · rfl
    · show (n : ℕ) % 512 = (n : ℕ); omega
  have ht : tok ⟨pt6Of (ix3 b T n), hN⟩ ⟨(T : ℕ) % 128, by omega⟩ = T :=
    Fin.ext (by show 128 * pt6Of (ix3 b T n) + (T : ℕ) % 128 = (T : ℕ); rw [hp]; omega)
  unfold G6
  refine (dif_pos hN).trans ?_
  rw [← outsAt0_sweep m c _ hN, hl, outs6 m c ⟨_, hN⟩, normed_at]
  unfold normed
  simp only [dot_blk m c _ b _ T ht, blk3_at]

/-- The result of rotated rows, at position 0. -/
theorem result7 (c : Dev nD) (b : Fin 8) (n : Fin 64) (T : Fin 4096) (h0 : psn m c (ix2 b T) = 0#32) :
    (G7 m c : Vec Ideal S8x64x4096 .bf16) (ix3 b n T) =
      dotA (hid m c) (wts m c) (scl m c) b T ⟨512 + (n : ℕ), by omega⟩ := by
  have hp : pt7Of (ix3 b n T) = (T : ℕ) / 128 := by
    show 32 * ((b : ℕ) / 8 - 0) + 32 * ((n : ℕ) / 64 - 0) + 1 * ((T : ℕ) / 128 - 0) = (T : ℕ) / 128; omega
  have hN : pt7Of (ix3 b n T) < cfg0.N := lt_of_lt_of_eq (by rw [hp]; omega) N_0.symm
  have hl : loc7Of (ix3 b n T) = ix3 b n (⟨(T : ℕ) % 128, by omega⟩ : Fin 128) := by
    funext a; refine Fin.ext ?_
    fin_cases a
    · show (b : ℕ) % 8 = (b : ℕ); omega
    · show (n : ℕ) % 64 = (n : ℕ); omega
    · rfl
  have ht : tok ⟨pt7Of (ix3 b n T), hN⟩ ⟨(T : ℕ) % 128, by omega⟩ = T :=
    Fin.ext (by show 128 * pt7Of (ix3 b n T) + (T : ℕ) % 128 = (T : ℕ); rw [hp]; omega)
  unfold G7
  refine (dif_pos hN).trans ?_
  rw [← outsAt0_sweep m c _ hN, hl, outs7 m c ⟨_, hN⟩, rotated_at _ _ _ _ _ _ _ _ _ _ _ _ _ _ _
    ((blk4_at m c _ b _).trans ((congrArg (fun T => psn m c (ix2 b T)) ht).trans h0)), dot_blk m c _ b _ T ht]

end Cert.KernelIdeal.Result

end
-- ==== Proof.Reference.lean ====
import proofs.«01_k».proof.Proof.Gen.ReferenceIdeal.Frame
import proofs.«01_k».proof.Proof.Scale
import Idealize.ShloMosaic.Lib.Pointwise

/-!
The payloads of the reference, at an index.
-/

set_option maxRecDepth 16384

noncomputable section

namespace Cert.ReferenceIdeal.Payload

open Idealize.ShloMosaic Cert.ReferenceIdeal.Gen Cert.Scale

variable {F : FTy → Type} [FloatOps F]

/-- The level of every group, of the values `y`. -/
def levels (y : FVec F S8x4096x28x128 .f32) : FVec F S8x4096x28 .f32 :=
  have v3 : FVec F S8x4096x28x128 .f32 := absf y
  have v4 : FVec F S8x4096x28 .f32 := multiReduction .maximumf [3] S8x4096x28 v3 0xFF800000#32 reduces_S8x4096x28x128_S8x4096x28 (.inl rfl) rfl
  have cst_2 : F .f32 := Scalar.ofBits .f32 0x3B124925#32
  have v5 : FVec F S8x4096x28 .f32 := broadcast S8x4096x28 cst_2
  have v6 : FVec F S8x4096x28 .f32 := mulf v4 v5
  v6

/-- The scale of every group, of the levels `u`. -/
def scales (u : FVec F S8x4096x28 .f32) : FVec F S8x4096x28 .f32 :=
  have v7 : IVec S8x4096x28x253 32 := iota .tc S8x4096x28x253 32 [3] iota_S8x4096x28x253_d3_w32
  have v8 : IVec S8x4096x28x253 32 := broadcast S8x4096x28x253 125#32
  have v9 : IVec S8x4096x28x253 32 := subi v7 v8
  have v10 : FVec F S8x4096x28x253 .f32 := sitofp .f32 v9
  have v11 : FVec F S8x4096x28x253 .f32 := exp2 v10
  have v12 : FVec F S8x4096x28x1 .f32 := shapeCast S8x4096x28x1 u shapeCasts_S8x4096x28_S8x4096x28x1
  have v13 : FVec F S8x4096x28x253 .f32 := broadcastTo S8x4096x28x253 v12 broadcasts_S8x4096x28x1_S8x4096x28x253
  have v14 : IVec S8x4096x28x253 1 := cmpf .ogt v11 v13
  have cst_3 : F .f32 := Scalar.ofBits .f32 0x7F800000#32
  have v15 : FVec F S8x4096x28x253 .f32 := broadcast S8x4096x28x253 cst_3
  have v16 : FVec F S8x4096x28x253 .f32 := select v14 v11 v15
  have v17 : FVec F S8x4096x28 .f32 := multiReduction .minimumf [3] S8x4096x28 v16 0x7F800000#32 reduces_S8x4096x28x253_S8x4096x28 (.inl rfl) rfl
  have cst_5 : F .f32 := Scalar.ofBits .f32 0x00800000#32
  have v18 : FVec F S8x4096x28 .f32 := broadcast S8x4096x28 cst_5
  have v19 : IVec S8x4096x28 1 := cmpf .olt u v18
  have cst_6 : F .f32 := Scalar.ofBits .f32 0x3F800000#32
  have v20 : FVec F S8x4096x28 .f32 := broadcast S8x4096x28 cst_6
  have v21 : FVec F S8x4096x28 .f32 := select v19 v20 v17
  v21

/-- The codes of the values `y` at the scales `s`. -/
def codes (y : FVec F S8x4096x28x128 .f32) (s : FVec F S8x4096x28 .f32) : FVec F S8x4096x28x128 .fp8e4m3 :=
  have cst_7 : F .f32 := Scalar.ofBits .f32 0x3F800000#32
  have v22 : FVec F S8x4096x28 .f32 := broadcast S8x4096x28 cst_7
  have v23 : FVec F S8x4096x28 .f32 := divf v22 s
  have v24 : FVec F S8x4096x28x1 .f32 := shapeCast S8x4096x28x1 v23 shapeCasts_S8x4096x28_S8x4096x28x1
  have v25 : FVec F S8x4096x28x128 .f32 := broadcastTo S8x4096x28x128 v24 broadcasts_S8x4096x28x1_S8x4096x28x128
  have v26 : FVec F S8x4096x28x128 .f32 := mulf y v25
  have cst_8 : F .f32 := Scalar.ofBits .f32 0xC3E00000#32
  have cst_9 : F .f32 := Scalar.ofBits .f32 0x43E00000#32
  have v27 : FVec F S8x4096x28x128 .f32 := broadcast S8x4096x28x128 cst_8
  have v28 : FVec F S8x4096x28x128 .f32 := maximumf v27 v26
  have v29 : FVec F S8x4096x28x128 .f32 := broadcast S8x4096x28x128 cst_9
  have v30 : FVec F S8x4096x28x128 .f32 := minimumf v29 v28
  have v31 : FVec F S8x4096x28x128 .fp8e4m3 := truncf .fp8e4m3 v30 bitsLt_fp8e4m3_f32
  v31

theorem pay3_eq (v : Vec F S8x4096x3584 .bf16) : k0_pay3 v = scales (levels (k0_pay2 v)) := rfl

theorem pay4_eq (v : Vec F S8x4096x3584 .bf16) : k0_pay4 v = codes (k0_pay2 v) (k0_pay3 v) := rfl

/-- The largest absolute value of a group of 128 channels, over 448. -/
def level (f : Fin 128 → EReal) : EReal :=
  Finset.fold max (Ideal.ofBits .f32 0xFF800000#32) (fun x => FloatOps.absf (F := Ideal) (φ := .f32) (f x)) Finset.univ *
    Ideal.ofBits .f32 991054117#32

theorem lev_at (y : FVec Ideal S8x4096x28x128 .f32) (b : Fin 8) (t : Fin 4096) (j : Fin 28) :
    multiReduction (F := Ideal) .maximumf [3] S8x4096x28 y 0xFF800000#32 reduces_S8x4096x28x128_S8x4096x28 (.inl rfl) rfl (ix3 b t j) =
      Finset.fold max (Ideal.ofBits .f32 0xFF800000#32) (fun x : Fin 128 => y (ix4 b t j x)) Finset.univ := by
  pointwise

theorem levels_eq (y : FVec Ideal S8x4096x28x128 .f32) :
    levels y = mulf (multiReduction (F := Ideal) .maximumf [3] S8x4096x28 (absf y) 0xFF800000#32
      reduces_S8x4096x28x128_S8x4096x28 (.inl rfl) rfl) (broadcast S8x4096x28 (Scalar.ofBits .f32 0x3B124925#32)) := rfl

theorem levels_at (y : FVec Ideal S8x4096x28x128 .f32) (b : Fin 8) (t : Fin 4096) (j : Fin 28) :
    levels y (ix3 b t j) = level fun c => y (ix4 b t j c) := by
  rw [levels_eq, mulf_apply, lev_at]
  rfl

/-- The channel `c` of the group `j`. -/
def chan (j : Fin 28) (c : Fin 128) : Fin 3584 := ⟨(j : ℕ) * 128 + c, by omega⟩

theorem split_at (v : Vec Ideal S8x4096x3584 .bf16) (b : Fin 8) (t : Fin 4096) (j : Fin 28) (c : Fin 128) :
    k0_pay2 (F := Ideal) v (ix4 b t j c) = v (ix3 b t (chan j c)) := by
  pointwise [k0_pay2]
  rfl

theorem one_value : Ideal.ofBits .f32 0x3F800000#32 = 1 := by
  pointwise

theorem scales_at (u : FVec Ideal S8x4096x28 .f32) (b : Fin 8) (t : Fin 4096) (j : Fin 28) :
    scales u (ix3 b t j) = refScale (u (ix3 b t j)) := by
  pointwise [scales]
  unfold refScale
  rw [one_value]
  rfl

theorem codes_at (y : FVec Ideal S8x4096x28x128 .f32) (s : FVec Ideal S8x4096x28 .f32) (b : Fin 8) (t : Fin 4096)
    (j : Fin 28) (c : Fin 128) :
    codes y s (ix4 b t j c) = min (Ideal.ofBits .f32 1138753536#32) (max (Ideal.ofBits .f32 3286237184#32)
      (y (ix4 b t j c) * Ideal.div 1 (s (ix3 b t j)))) := by
  pointwise [codes]

/-- The reference's scale of the group `j`. -/
theorem scale_at (v : Vec Ideal S8x4096x3584 .bf16) (b : Fin 8) (t : Fin 4096) (j : Fin 28) :
    k0_pay3 (F := Ideal) v (ix3 b t j) = refScale (level fun c => v (ix3 b t (chan j c))) := by
  rw [pay3_eq, scales_at, levels_at]
  simp only [split_at]

/-- The reference's code of `a` in a group of level `t`. -/
def code (t a : EReal) : EReal :=
  min (Ideal.ofBits .f32 1138753536#32) (max (Ideal.ofBits .f32 3286237184#32)
    (a * Ideal.div (Ideal.ofBits .f32 0x3F800000#32) (refScale t)))

/-- The reference's code. -/
theorem code_at (v : Vec Ideal S8x4096x3584 .bf16) (b : Fin 8) (t : Fin 4096) (j : Fin 28) (c : Fin 128) :
    k0_pay4 (F := Ideal) v (ix4 b t j c) = code (level fun c => v (ix3 b t (chan j c))) (v (ix3 b t (chan j c))) := by
  rw [pay4_eq, codes_at, scale_at, split_at, code, one_value]

/-- The codes, as stored. -/
theorem stored_codes_at (v : Vec Ideal S8x4096x3584 .bf16) (b : Fin 8) (t : Fin 4096) (k : Fin 3584) :
    k0_pay5 (F := Ideal) v (ix3 b t k) =
      k0_pay4 (F := Ideal) v (ix4 b t ⟨(k : ℕ) / 128, by omega⟩ ⟨(k : ℕ) % 128, by omega⟩) := by
  pointwise [k0_pay5]

/-- The scales, as stored. -/
theorem stored_scales_at (v : Vec Ideal S8x4096x3584 .bf16) (j : Fin 28) (b : Fin 8) (t : Fin 4096) :
    k0_pay6 (F := Ideal) v (ix3 j b t) = k0_pay3 (F := Ideal) v (ix3 b t j) := by
  pointwise [k0_pay6]

/-- The product of the dequantised codes and the weights. -/
theorem product_at (x : FVec Ideal S8x4096x28x128 .bf16) (s : FVec Ideal S8x4096x28x1 .bf16)
    (w : Vec Ideal S576x3584 .fp8e4m3) (ws : Vec Ideal S576x3584 .f32) (b : Fin 8) (t : Fin 4096) (n : Fin 576) :
    k0_pay9 (F := Ideal) x s w ws (ix3 b t n) =
      ∑ k : Fin 3584, (x (ix4 b t ⟨(k : ℕ) / 128, by omega⟩ ⟨(k : ℕ) % 128, by omega⟩) *
        s (ix4 b t ⟨(k : ℕ) / 128, by omega⟩ 0) * (w (ix2 n k) * ws (ix2 n k)) : EReal) := by
  pointwise [k0_pay9]

theorem norm_at (x : FVec Ideal S8x4096x28x128 .bf16) (s : FVec Ideal S8x4096x28x1 .bf16)
    (w : Vec Ideal S576x3584 .fp8e4m3) (ws : Vec Ideal S576x3584 .f32) (g : Vec Ideal S512 .bf16)
    (b : Fin 8) (t : Fin 4096) (n : Fin 512) :
    k0_pay10 (F := Ideal) x s w ws g (ix3 b t n) =
      (k0_pay9 (F := Ideal) x s w ws (ix3 b t ⟨n, by omega⟩) *
        Ideal.rsqrt (Ideal.div (∑ m : Fin 512, (k0_pay9 (F := Ideal) x s w ws (ix3 b t ⟨m, by omega⟩) *
          k0_pay9 (F := Ideal) x s w ws (ix3 b t ⟨m, by omega⟩) : EReal)) (Ideal.ofBits .f32 1140850688#32) +
            Ideal.ofBits .f32 897988541#32) * g (ix1 n) : EReal) := by
  pointwise [k0_pay10]

section Rope
variable (p : Vec Ideal S8x4096 .i32) (f : Vec Ideal S32 .f32) (b : Fin 8) (t : Fin 4096) (n : Fin 32) (hp : p (ix2 b t) = 0#32)
include hp

theorem cosine_one : k0_pay12 (F := Ideal) p f (ix3 b t n) = (1 : EReal) := by
  pointwise [k0_pay12, k0_pay11]
  rw [hp]
  show Ideal.cos ((((0#32 : BitVec 32).toInt : ℝ) : EReal) * _) = 1
  rw [show (((0#32 : BitVec 32).toInt : ℝ) : EReal) = 0 by simp, zero_mul]
  show ((Real.cos 0 : ℝ) : EReal) = 1
  simp

theorem sine_zero : k0_pay13 (F := Ideal) p f (ix3 b t n) = (0 : EReal) := by
  pointwise [k0_pay13, k0_pay11]
  rw [hp]
  show Ideal.sin ((((0#32 : BitVec 32).toInt : ℝ) : EReal) * _) = 0
  rw [show (((0#32 : BitVec 32).toInt : ℝ) : EReal) = 0 by simp, zero_mul]
  show ((Real.sin 0 : ℝ) : EReal) = 0
  simp

end Rope

/-- The rotated rows where the cosine is 1 and the sine is 0. -/
theorem rotate_at (cs sn : FVec Ideal S8x4096x32 .f32) (y : FVec Ideal S8x4096x32x2 .f32) (y0 : FVec Ideal S8x4096x32 .f32)
    (b : Fin 8) (t : Fin 4096) (n : Fin 64) (hc : ∀ m, cs (ix3 b t m) = (1 : EReal)) (hs : ∀ m, sn (ix3 b t m) = (0 : EReal)) :
    k0_pay1 (F := Ideal) cs sn y y0 (ix3 b n t) =
      (if (n : ℕ) % 2 < 1 then y0 (ix3 b t ⟨(n : ℕ) / 2, by omega⟩) else y (ix4 b t ⟨(n : ℕ) / 2, by omega⟩ 1)) := by
  pointwise [k0_pay1]
  simp only [hc, hs, mul_one, mul_zero, sub_zero, zero_add]
  rfl

theorem pair_at (x : FVec Ideal S8x4096x28x128 .bf16) (s : FVec Ideal S8x4096x28x1 .bf16)
    (w : Vec Ideal S576x3584 .fp8e4m3) (ws : Vec Ideal S576x3584 .f32)
    (b : Fin 8) (t : Fin 4096) (n : Fin 32) (h : Fin 2) :
    k0_pay14 (F := Ideal) x s w ws (ix4 b t n h) =
      k0_pay9 (F := Ideal) x s w ws (ix3 b t ⟨512 + ((n : ℕ) * 2 + h), by omega⟩) := by
  pointwise [k0_pay14]

theorem even_at (x : FVec Ideal S8x4096x28x128 .bf16) (s : FVec Ideal S8x4096x28x1 .bf16)
    (w : Vec Ideal S576x3584 .fp8e4m3) (ws : Vec Ideal S576x3584 .f32)
    (b : Fin 8) (t : Fin 4096) (n : Fin 32) :
    k0_pay15 (F := Ideal) x s w ws (ix3 b t n) = k0_pay14 (F := Ideal) x s w ws (ix4 b t n 0) := by
  pointwise [k0_pay15]

/-- The rotated rows at position 0: the rows 512 and up of the product. -/
theorem rope_at (x : FVec Ideal S8x4096x28x128 .bf16) (s : FVec Ideal S8x4096x28x1 .bf16)
    (w : Vec Ideal S576x3584 .fp8e4m3) (ws : Vec Ideal S576x3584 .f32) (p : Vec Ideal S8x4096 .i32) (f : Vec Ideal S32 .f32)
    (b : Fin 8) (t : Fin 4096) (n : Fin 64) (hp : p (ix2 b t) = 0#32) :
    k0_pay1 (F := Ideal) (k0_pay12 p f) (k0_pay13 p f) (k0_pay14 x s w ws) (k0_pay15 x s w ws) (ix3 b n t) =
      k0_pay9 (F := Ideal) x s w ws (ix3 b t ⟨512 + (n : ℕ), by omega⟩) := by
  rw [rotate_at _ _ _ _ b t n (fun m => cosine_one p f b t m hp) (fun m => sine_zero p f b t m hp), even_at, pair_at, pair_at]
  split
  · congr 2
    exact Fin.ext (by show 512 + ((n : ℕ) / 2 * 2 + 0) = 512 + n; omega)
  · congr 2
    exact Fin.ext (by show 512 + ((n : ℕ) / 2 * 2 + 1) = 512 + n; omega)

end Cert.ReferenceIdeal.Payload
-- ==== Proof.RefResult.lean ====
import proofs.«01_k».proof.Proof.Reference
import proofs.«01_k».proof.Proof.Gen.ReferenceIdeal.Value
import Idealize.ShloMosaic.Lib.Pipeline.ValueKit
import Idealize.ShloMosaic.Lib.Claim

/-!
The reference's result arrays, at an index, over the argument arrays.
-/

set_option maxRecDepth 16384

noncomputable section

namespace Cert.ReferenceIdeal.Result

open Idealize.ShloMosaic Idealize.ShloMosaic.TcCoe Cert.ReferenceIdeal.Gen Cert.ReferenceIdeal.Value Cert.Scale
open Cert.ReferenceIdeal.Payload

theorem widened_codes_at (v : Vec Ideal S8x4096x3584 .bf16) (b : Fin 8) (t : Fin 4096) (j : Fin 28) (c : Fin 128) :
    k0_pay7 (F := Ideal) v (ix4 b t j c) = k0_pay4 (F := Ideal) v (ix4 b t j c) := by
  pointwise [k0_pay7]

theorem widened_scales_at (v : Vec Ideal S8x4096x3584 .bf16) (b : Fin 8) (t : Fin 4096) (j : Fin 28) :
    k0_pay8 (F := Ideal) v (ix4 b t j 0) = k0_pay3 (F := Ideal) v (ix3 b t j) := by
  pointwise [k0_pay8]

variable (m : (ℓ : Loc nD τ sig) → Buf (Elt Ideal) ℓ)

/-- The argument arrays, at their shapes. -/
def hid (c : Dev nD) : Vec Ideal S8x4096x3584 .bf16 := m ((c : Thread nD τ).loc main_arg0)
def wts (c : Dev nD) : Vec Ideal S576x3584 .fp8e4m3 := m ((c : Thread nD τ).loc main_arg1)
def scl (c : Dev nD) : Vec Ideal S5x28 .f32 := m ((c : Thread nD τ).loc main_arg2)
def gam (c : Dev nD) : Vec Ideal S512 .bf16 := m ((c : Thread nD τ).loc main_arg3)
def psn (c : Dev nD) : Vec Ideal S8x4096 .i32 := m ((c : Thread nD τ).loc main_arg4)

theorem idx : win0_0.index t0_0 = ![0, 0, 0] ∧ win0_1.index t0_0 = ![0, 0] ∧ win0_2.index t0_0 = ![0, 0] ∧
    win0_3.index t0_0 = ![0] ∧ win0_4.index t0_0 = ![0, 0] := by decide +kernel

def blk2 (c : Dev nD) : Vec Ideal S576x3584 .f32 := iblk m c 2 t0_0

def blk5 (c : Dev nD) : Vec Ideal S32 .f32 := iblk m c 5 t0_0

theorem blk0_eq (c : Dev nD) : (iblk m c 0 t0_0 : Vec Ideal S8x4096x3584 .bf16) = hid m c := by
  unfold hid
  blk_ext! [iblk, V, idx]

theorem blk1_eq (c : Dev nD) : (iblk m c 1 t0_0 : Vec Ideal S576x3584 .fp8e4m3) = wts m c := by
  unfold wts
  blk_ext! [iblk, V, idx]

theorem blk2_at (c : Dev nD) (n : Fin 576) (k : Fin 3584) :
    blk2 m c (ix2 n k) = scl m c (ix2 ⟨(n : ℕ) / 128, by omega⟩ ⟨(k : ℕ) / 128, by omega⟩) := by
  unfold blk2 scl
  blk_simp [iblk, idx]
  entry_read
  pointwise
  blk_ext [idx]

theorem blk3_eq (c : Dev nD) : (iblk m c 3 t0_0 : Vec Ideal S512 .bf16) = gam m c := by
  unfold gam
  blk_ext! [iblk, V, idx]

theorem blk4_eq (c : Dev nD) : (iblk m c 4 t0_0 : Vec Ideal S8x4096 .i32) = psn m c := by
  unfold psn
  blk_ext! [iblk, V, idx]

/-- The level of group `j` of token `T` of batch `b`. -/
def levA (x : Vec Ideal S8x4096x3584 .bf16) (b : Fin 8) (T : Fin 4096) (j : Fin 28) : EReal :=
  level fun c => x (ix3 b T (chan j c))

/-- The dequantised code of channel `k`. -/
def deqA (x : Vec Ideal S8x4096x3584 .bf16) (b : Fin 8) (T : Fin 4096) (k : Fin 3584) : EReal :=
  code (levA x b T ⟨(k : ℕ) / 128, by omega⟩) (x (ix3 b T k)) * refScale (levA x b T ⟨(k : ℕ) / 128, by omega⟩)

/-- The product of row `n` of the weights with token `T` of batch `b`. -/
def dotA (x : Vec Ideal S8x4096x3584 .bf16) (w : Vec Ideal S576x3584 .fp8e4m3) (s : Vec Ideal S5x28 .f32) (b : Fin 8)
    (T : Fin 4096) (n : Fin 576) : EReal :=
  ∑ k : Fin 3584, deqA x b T k * (w (ix2 n k) * s (ix2 ⟨(n : ℕ) / 128, by omega⟩ ⟨(k : ℕ) / 128, by omega⟩))

theorem chan_split (k : Fin 3584) : chan ⟨(k : ℕ) / 128, by omega⟩ ⟨(k : ℕ) % 128, by omega⟩ = k :=
  Fin.ext (by show (k : ℕ) / 128 * 128 + (k : ℕ) % 128 = (k : ℕ); omega)

/-- The product the body forms. -/
theorem dot_at (c : Dev nD) (b : Fin 8) (T : Fin 4096) (n : Fin 576) :
    k0_pay9 (F := Ideal) (k0_pay7 (hid m c)) (k0_pay8 (hid m c)) (wts m c) (blk2 m c) (ix3 b T n) =
      dotA (hid m c) (wts m c) (scl m c) b T n := by
  rw [product_at]
  refine Finset.sum_congr rfl fun k _ => ?_
  rw [widened_codes_at, widened_scales_at, code_at, scale_at, blk2_at, chan_split]
  rfl

theorem zero3 : (![0, 0, 0] : Fin 3 → ℕ) = fun _ => 0 := by funext a; fin_cases a <;> rfl

theorem zero2 : (![0, 0] : Fin 2 → ℕ) = fun _ => 0 := by funext a; fin_cases a <;> rfl

theorem zero1 : (![0] : Fin 1 → ℕ) = fun _ => 0 := by funext a; fin_cases a; rfl

section Loads

theorem ld_hid (x : Vec Ideal S8x4096x3584 .bf16) : View.ld (Val := Elt Ideal) (e' := .bf16) x r0_0 = x :=
  View.ld_unit_zero zero3 _ _

theorem ld_wts (x : Vec Ideal S576x3584 .fp8e4m3) : View.ld (Val := Elt Ideal) (e' := .fp8e4m3) x r0_2 = x :=
  View.ld_unit_zero zero2 _ _

theorem ld_scl (x : Vec Ideal S576x3584 .f32) : View.ld (Val := Elt Ideal) (e' := .f32) x r0_2 = x :=
  View.ld_unit_zero zero2 _ _

theorem ld_gam (x : Vec Ideal S512 .bf16) : View.ld (Val := Elt Ideal) (e' := .bf16) x r0_3 = x :=
  View.ld_unit_zero zero1 _ _

theorem ld_psn (x : Vec Ideal S8x4096 .i32) : View.ld (Val := Elt Ideal) (e' := .i32) x r0_5 = x :=
  View.ld_unit_zero zero2 _ _

theorem ld_frq (x : Vec Ideal S32 .f32) : View.ld (Val := Elt Ideal) (e' := .f32) x r0_6 = x :=
  View.ld_unit_zero zero1 _ _

end Loads

section Stored

variable (x0 : Vec Ideal S8x4096x3584 .bf16) (x1 : Vec Ideal S576x3584 .fp8e4m3) (x2 : Vec Ideal S576x3584 .f32)
  (x3 : Vec Ideal S512 .bf16) (x4 : Vec Ideal S8x4096 .i32) (x5 : Vec Ideal S32 .f32)

theorem out9 : out0_9 (F := Ideal) x0 x1 x2 x3 x4 x5 = k0_pay6 x0 := by
  unfold out0_9
  rw [ld_hid]
  exact View.canon_unit_zero (Val := Elt Ideal) (S := S28x8x4096) (e := .f32) zero3 _ _

theorem out8 : out0_8 (F := Ideal) x0 x1 x2 x3 x4 x5 = k0_pay5 x0 := by
  unfold out0_8
  rw [ld_hid]
  exact View.canon_unit_zero (Val := Elt Ideal) (S := S8x4096x3584) (e := .fp8e4m3) zero3 _ _

theorem out6 : out0_6 (F := Ideal) x0 x1 x2 x3 x4 x5 = k0_pay10 (k0_pay7 x0) (k0_pay8 x0) x1 x2 x3 := by
  unfold out0_6 k0_pay16 k0_pay17
  rw [ld_hid, ld_wts, ld_scl, ld_gam]
  exact View.canon_unit_zero (Val := Elt Ideal) (S := S8x4096x512) (e := .bf16) zero3 _ _

theorem out7 : out0_7 (F := Ideal) x0 x1 x2 x3 x4 x5 = k0_pay1 (k0_pay12 x4 x5) (k0_pay13 x4 x5)
    (k0_pay14 (k0_pay7 x0) (k0_pay8 x0) x1 x2) (k0_pay15 (k0_pay7 x0) (k0_pay8 x0) x1 x2) := by
  unfold out0_7 k0_pay16 k0_pay17
  rw [ld_hid, ld_wts, ld_scl, ld_psn, ld_frq]
  exact View.canon_unit_zero (Val := Elt Ideal) (S := S8x64x4096) (e := .bf16) zero3 _ _

end Stored

/-- The result arrays are what the single point leaves. -/
theorem final9 (c : Dev nD) : (dats m 0 c).arrAt 9 cfg0.N = (k0_pay6 (hid m c) : Vec Ideal S28x8x4096 .f32) := by
  refine (dats m 0 c).arrAt_eq_of_after_last 9 t0_0 (by decide +kernel) _ fun j => ?_
  blk_simp
  rw [after0_9, out9, blk0_eq]

theorem final8 (c : Dev nD) : (dats m 0 c).arrAt 8 cfg0.N = (k0_pay5 (hid m c) : Vec Ideal S8x4096x3584 .fp8e4m3) := by
  refine (dats m 0 c).arrAt_eq_of_after_last 8 t0_0 (by decide +kernel) _ fun j => ?_
  blk_simp
  rw [after0_8, out8, blk0_eq]

theorem final6 (c : Dev nD) : (dats m 0 c).arrAt 6 cfg0.N =
    (k0_pay10 (k0_pay7 (hid m c)) (k0_pay8 (hid m c)) (wts m c) (blk2 m c) (gam m c) : Vec Ideal S8x4096x512 .bf16) := by
  refine (dats m 0 c).arrAt_eq_of_after_last 6 t0_0 (by decide +kernel) _ fun j => ?_
  blk_simp
  rw [after0_6, out6, blk0_eq, blk1_eq, blk3_eq]
  rfl

theorem final7 (c : Dev nD) : (dats m 0 c).arrAt 7 cfg0.N =
    (k0_pay1 (k0_pay12 (psn m c) (blk5 m c)) (k0_pay13 (psn m c) (blk5 m c))
      (k0_pay14 (k0_pay7 (hid m c)) (k0_pay8 (hid m c)) (wts m c) (blk2 m c))
      (k0_pay15 (k0_pay7 (hid m c)) (k0_pay8 (hid m c)) (wts m c) (blk2 m c)) : Vec Ideal S8x64x4096 .bf16) := by
  refine (dats m 0 c).arrAt_eq_of_after_last 7 t0_0 (by decide +kernel) _ fun j => ?_
  blk_simp
  rw [after0_7, out7, blk0_eq, blk1_eq, blk4_eq]
  rfl

/-- The result of scales. -/
theorem result9 (c : Dev nD) (j : Fin 28) (b : Fin 8) (T : Fin 4096) :
    k0_pay6 (F := Ideal) (hid m c) (ix3 j b T) = refScale (levA (hid m c) b T j) := by
  rw [stored_scales_at, scale_at]
  rfl

/-- The result of codes. -/
theorem result8 (c : Dev nD) (b : Fin 8) (T : Fin 4096) (k : Fin 3584) :
    k0_pay5 (F := Ideal) (hid m c) (ix3 b T k) = code (levA (hid m c) b T ⟨(k : ℕ) / 128, by omega⟩) (hid m c (ix3 b T k)) := by
  rw [stored_codes_at, code_at, chan_split]
  rfl

/-- The result of normalised rows. -/
theorem result6 (c : Dev nD) (b : Fin 8) (T : Fin 4096) (n : Fin 512) :
    k0_pay10 (F := Ideal) (k0_pay7 (hid m c)) (k0_pay8 (hid m c)) (wts m c) (blk2 m c) (gam m c) (ix3 b T n) =
      dotA (hid m c) (wts m c) (scl m c) b T ⟨n, by omega⟩ *
        Ideal.rsqrt (Ideal.div (∑ k : Fin 512, dotA (hid m c) (wts m c) (scl m c) b T ⟨k, by omega⟩ *
          dotA (hid m c) (wts m c) (scl m c) b T ⟨k, by omega⟩) (Ideal.ofBits .f32 1140850688#32) + Ideal.ofBits .f32 897988541#32) *
        gam m c (ix1 n) := by
  rw [norm_at]
  simp only [dot_at]

/-- The result of rotated rows, at position 0. -/
theorem result7 (c : Dev nD) (b : Fin 8) (n : Fin 64) (T : Fin 4096) (h0 : psn m c (ix2 b T) = 0#32) :
    k0_pay1 (F := Ideal) (k0_pay12 (psn m c) (blk5 m c)) (k0_pay13 (psn m c) (blk5 m c))
      (k0_pay14 (k0_pay7 (hid m c)) (k0_pay8 (hid m c)) (wts m c) (blk2 m c))
      (k0_pay15 (k0_pay7 (hid m c)) (k0_pay8 (hid m c)) (wts m c) (blk2 m c)) (ix3 b n T) =
      dotA (hid m c) (wts m c) (scl m c) b T ⟨512 + (n : ℕ), by omega⟩ := by
  rw [rope_at _ _ _ _ _ _ b T n h0, dot_at]

end Cert.ReferenceIdeal.Result

end
-- ==== Proof.Match.lean ====
import proofs.«01_k».proof.Proof.Result
import proofs.«01_k».proof.Proof.RefResult
import proofs.«01_k».proof.Pre_finite
import proofs.«01_k».proof.Proof.Gen.Pre_finite

/-!
The two programs' scales, codes and products agree where every hidden value is finite.
-/

set_option maxRecDepth 16384

noncomputable section

namespace Cert.Match

open Idealize.ShloMosaic Cert.Scale

/-- An f32 word of exponent field `k` and no sign is worth its fraction times a power of two. -/
theorem value_word (b : BitVec 32) (k f : ℕ) (h0 : 0 < k) (h1 : k < 255) (hn : (b.extractLsb' 31 1 == 1#1) = false)
    (he : (b.extractLsb' 23 8).toNat = k) (hf : (b.extractLsb' 0 23).toNat = f) :
    Ideal.ofBits .f32 b = ((((2 ^ 23 + f : ℕ) : ℝ) * (2 : ℝ) ^ ((k : ℤ) - 127 - 23) : ℝ) : EReal) := by
  show Ideal.ieee 8 23 b = _
  unfold Ideal.ieee
  simp only [show 8 + 23 = 31 from rfl, hn, he, hf]
  rw [if_neg (by omega), if_neg (by omega)]
  congr 1
  rw [if_neg (by simp), one_mul]
  norm_num

theorem low_bf16 : Ideal.ofBits .bf16 65408#16 = (⊥ : EReal) := by
  show Ideal.ieee 8 7 (65408#16) = ⊥
  unfold Ideal.ieee
  have hn : ((65408#16 : BitVec 16).extractLsb' 15 1 == 1#1) = true := by decide
  have he : ((65408#16 : BitVec 16).extractLsb' 7 8).toNat = 255 := by decide
  have hf : ((65408#16 : BitVec 16).extractLsb' 0 7).toNat = 0 := by decide
  simp only [show 8 + 7 = 15 from rfl, hn, he, hf]
  norm_num

theorem low_f32 : Ideal.ofBits .f32 0xFF800000#32 = (⊥ : EReal) := by
  show Ideal.ieee 8 23 (0xFF800000#32) = ⊥
  unfold Ideal.ieee
  have hn : ((0xFF800000#32 : BitVec 32).extractLsb' 31 1 == 1#1) = true := by decide
  have he : ((0xFF800000#32 : BitVec 32).extractLsb' 23 8).toNat = 255 := by decide
  have hf : ((0xFF800000#32 : BitVec 32).extractLsb' 0 23).toNat = 0 := by decide
  simp only [show 8 + 23 = 31 from rfl, hn, he, hf]
  norm_num

/-- The largest finite value of bf16 is below a power of two. -/
theorem largest_le : Ideal.ofBits .bf16 0x7F7F#16 ≤ p2 128 := by
  have hb : Ideal.ofBits .bf16 0x7F7F#16 = (((255 : ℝ) * (2 : ℝ) ^ (120 : ℤ) : ℝ) : EReal) := by
    show Ideal.ieee 8 7 (0x7F7F#16) = _
    unfold Ideal.ieee
    have hn : ((0x7F7F#16 : BitVec 16).extractLsb' 15 1 == 1#1) = false := by decide
    have he : ((0x7F7F#16 : BitVec 16).extractLsb' 7 8).toNat = 254 := by decide
    have hf : ((0x7F7F#16 : BitVec 16).extractLsb' 0 7).toNat = 127 := by decide
    simp only [show 8 + 7 = 15 from rfl, hn, he, hf]
    norm_num
  rw [hb]
  unfold p2
  rw [EReal.coe_le_coe_iff]
  norm_num

/-- The factor 1/448, rounded, -/
theorem factor_eq : Ideal.ofBits .f32 991054117#32 = ((((2 ^ 23 + 1198373 : ℕ) : ℝ) * (2 : ℝ) ^ (-32 : ℤ) : ℝ) : EReal) :=
  (value_word _ 118 1198373 (by omega) (by omega) (by decide) (by decide) (by decide)).trans (by norm_num)

theorem factor_nonneg : 0 ≤ Ideal.ofBits .f32 991054117#32 := by
  rw [factor_eq, ← EReal.coe_zero, EReal.coe_le_coe_iff]
  positivity

theorem factor_le : Ideal.ofBits .f32 991054117#32 ≤ p2 (-8) := by
  rw [factor_eq]
  unfold p2
  rw [EReal.coe_le_coe_iff]
  norm_num

theorem p2_mul (a b : ℤ) : p2 a * p2 b = p2 (a + b) := by
  unfold p2
  rw [← EReal.coe_mul, zpow_add₀ (by norm_num)]

/-- Division by 512 is the product with 1/512. -/
theorem mean_eq (x : EReal) : x * Ideal.ofBits .f32 989855744#32 = Ideal.div x (Ideal.ofBits .f32 1140850688#32) := by
  rw [value_pow 989855744#32 118 (by omega) (by omega) (by decide) (by decide) (by decide),
    value_pow 1140850688#32 136 (by omega) (by omega) (by decide) (by decide) (by decide)]
  unfold Ideal.div
  rw [if_neg (p2_pos _).ne']
  unfold p2
  rw [← EReal.coe_inv]
  norm_num

theorem level_eq (f : Fin 128 → EReal) : Cert.KernelIdeal.Block.level f = Cert.ReferenceIdeal.Payload.level f := by
  unfold Cert.KernelIdeal.Block.level Cert.ReferenceIdeal.Payload.level
  rw [low_bf16, low_f32]
  rfl

/-- The level of a group of finite values is in the range of the scales. -/
theorem level_range (f : Fin 128 → EReal) (hf : ∀ i, max (f i) (-(f i)) ≤ Ideal.ofBits .bf16 0x7F7F#16) :
    0 ≤ Cert.KernelIdeal.Block.level f ∧ Cert.KernelIdeal.Block.level f < p2 126 := by
  unfold Cert.KernelIdeal.Block.level
  have hlo : 0 ≤ Finset.fold max (Ideal.ofBits .bf16 65408#16) (fun x => FloatOps.absf (F := Ideal) (φ := .bf16) (f x)) Finset.univ := by
    rw [Finset.le_fold_max]
    refine Or.inr ⟨0, Finset.mem_univ _, ?_⟩
    show (0 : EReal) ≤ max (f 0) (-(f 0))
    rcases le_total 0 (f 0) with h | h
    · exact le_max_of_le_left h
    · exact le_max_of_le_right (EReal.neg_nonneg.mpr h)
  have hhi : Finset.fold max (Ideal.ofBits .bf16 65408#16) (fun x => FloatOps.absf (F := Ideal) (φ := .bf16) (f x)) Finset.univ ≤ p2 128 := by
    rw [Finset.fold_max_le, low_bf16]
    exact ⟨bot_le, fun i _ => (hf i).trans largest_le⟩
  refine ⟨mul_nonneg hlo factor_nonneg, ?_⟩
  refine lt_of_le_of_lt (mul_le_mul hhi factor_le factor_nonneg (p2_pos _).le) ?_
  rw [p2_mul, p2_lt]
  norm_num

/-- What the precondition says of one value. -/
theorem finite_at (x0 x1 x2 x3 x4) (h : Cert.Pre_finite.fn (F := Ideal) x0 x1 x2 x3 x4 = fun _ => 1#1)
    (i : Cert.Pre_finite.S8x4096x3584.Idx) : max (x0 i) (-(x0 i)) ≤ Ideal.ofBits .bf16 0x7F7F#16 := by
  have h1 : BitVec.ofBool (decide (max (x0 i) (-(x0 i)) ≤ Ideal.ofBits .bf16 0x7F7F#16)) = 1#1 := congrFun h i
  by_contra hc
  rw [decide_eq_false hc] at h1
  exact absurd h1 (by decide)

section Rows

variable (x : Vec Ideal Cert.KernelIdeal.S8x4096x3584 .bf16)

/-- Every value is within the range of bf16. -/
def Finite : Prop := ∀ b T k, max (x (ix3 b T k)) (-(x (ix3 b T k))) ≤ Ideal.ofBits .bf16 0x7F7F#16

theorem lev_eq (b : Fin 8) (T : Fin 4096) (j : Fin 28) :
    Cert.KernelIdeal.Result.levA x b T j = Cert.ReferenceIdeal.Result.levA x b T j := by
  refine (level_eq _).trans (congrArg Cert.ReferenceIdeal.Payload.level (funext fun c => ?_))
  rw [show Cert.KernelIdeal.Tiles.chan j c = Cert.ReferenceIdeal.Payload.chan j c from
    Fin.ext (by show 128 * (j : ℕ) + (c : ℕ) = (j : ℕ) * 128 + (c : ℕ); omega)]

theorem scale_eq (hx : Finite x) (b : Fin 8) (T : Fin 4096) (j : Fin 28) :
    Ideal.ofBits .f32 (scaleWord (Cert.KernelIdeal.Result.levA x b T j)) = refScale (Cert.ReferenceIdeal.Result.levA x b T j) := by
  obtain ⟨h0, h1⟩ := level_range _ fun c => hx b T (Cert.KernelIdeal.Tiles.chan j c)
  rw [← lev_eq x b T j]
  exact value_scaleWord _ h0 h1

theorem code_eq (hx : Finite x) (b : Fin 8) (T : Fin 4096) (j : Fin 28) (a : EReal) :
    Cert.KernelIdeal.Block.code (Cert.KernelIdeal.Result.levA x b T j) a =
      Cert.ReferenceIdeal.Payload.code (Cert.ReferenceIdeal.Result.levA x b T j) a := by
  obtain ⟨h0, h1⟩ := level_range _ fun c => hx b T (Cert.KernelIdeal.Tiles.chan j c)
  rw [← lev_eq x b T j]
  unfold Cert.KernelIdeal.Block.code Cert.ReferenceIdeal.Payload.code
  rw [value_scaleWord_inverse (Cert.KernelIdeal.Result.levA x b T j) h0 h1]

theorem deq_eq (hx : Finite x) (b : Fin 8) (T : Fin 4096) (k : Fin 3584) :
    Cert.KernelIdeal.Result.deqA x b T k = Cert.ReferenceIdeal.Result.deqA x b T k := by
  unfold Cert.KernelIdeal.Result.deqA Cert.ReferenceIdeal.Result.deqA
  rw [scale_eq x hx, code_eq x hx]
  rfl

theorem dot_eq (hx : Finite x) (w : Vec Ideal Cert.KernelIdeal.S576x3584 .fp8e4m3) (s : Vec Ideal Cert.KernelIdeal.S5x28 .f32)
    (b : Fin 8) (T : Fin 4096) (n : Fin 576) :
    Cert.KernelIdeal.Result.dotA x w s b T n = Cert.ReferenceIdeal.Result.dotA x w s b T n := by
  unfold Cert.KernelIdeal.Result.dotA Cert.ReferenceIdeal.Result.dotA
  refine Finset.sum_congr rfl fun k _ => ?_
  rw [deq_eq x hx, mul_comm]
  rfl

end Rows

end Cert.Match
-- ==== Proof.Equal.lean ====
import proofs.«01_k».proof.Proof.Match
import proofs.«01_k».proof.On_claimed
import proofs.«01_k».proof.Proof.Gen.On_claimed

/-!
The two programs' result arrays agree where the claim's mask is set.
-/

set_option maxRecDepth 16384

noncomputable section

namespace Cert.Equal

open Idealize.ShloMosaic Idealize.ShloMosaic.TcCoe Cert.Scale Cert.Match

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- What the mask says of a position: where it is set for the rotated rows, the position is 0. -/
theorem position_at (x0 x1 x2 x3 x4) (b : Fin 8) (n : Fin 64) (T : Fin 4096)
    (h : (Cert.On_claimed.fn (F := Ideal) x0 x1 x2 x3 x4).2.1 (ix3 b n T) = 1#1) : x4 (ix2 b T) = 0#32 := by
  have hi : (fun a : Fin 2 => if h1 : Cert.On_claimed.S8x4096.size a = 1 then (⟨0, by omega⟩ : Fin (Cert.On_claimed.S8x4096.size a))
      else ⟨((ix3 b n T : Cert.On_claimed.S8x64x4096.Idx) ((![0, 2] : Fin 2 → Fin 3) a)).val, by
        fin_cases a
        · exact b.isLt
        · exact T.isLt⟩) = (ix2 b T : Cert.On_claimed.S8x4096.Idx) := by
    funext a; fin_cases a <;> rfl
  have h1 : IntOp.cmpi .eq (x4 (ix2 b T)) 0#32 = 1#1 := by
    rw [← hi]; exact h
  have h2 : BitVec.ofBool (x4 (ix2 b T) == 0#32) = 1#1 := h1
  by_contra hc
  rw [beq_eq_false_iff_ne.mpr hc] at h2
  exact absurd h2 (by decide)

variable (h0 : Cert.ReferenceIdeal.Result.hid m' c = Cert.KernelIdeal.Outs.hid m c)
  (h1 : Cert.ReferenceIdeal.Result.wts m' c = Cert.KernelIdeal.Outs.wts m c)
  (h2 : Cert.ReferenceIdeal.Result.scl m' c = Cert.KernelIdeal.Outs.scl m c)
  (h3 : Cert.ReferenceIdeal.Result.gam m' c = Cert.KernelIdeal.Outs.gam m c)
  (h4 : Cert.ReferenceIdeal.Result.psn m' c = Cert.KernelIdeal.Outs.psn m c)
  (hx : Finite (Cert.KernelIdeal.Outs.hid m c))

include h0 hx in
theorem scales (i : (⟨3, ![28, 8, 4096]⟩ : Shape).Idx) :
    (Cert.ReferenceIdeal.Gen.dats m' 0 c).arrAt 9 Cert.ReferenceIdeal.cfg0.N i = Cert.KernelIdeal.Value.G9 m c i := by
  refine (congrFun (Cert.ReferenceIdeal.Result.final9 m' c) i).trans ?_
  idx_vars i
  refine (Cert.ReferenceIdeal.Result.result9 m' c _ _ _).trans ?_
  refine Eq.trans ?_ (Cert.KernelIdeal.Result.result9 m c _ _ _).symm
  rw [h0]
  exact (scale_eq _ hx _ _ _).symm

include h0 hx in
theorem codes (i : (⟨3, ![8, 4096, 3584]⟩ : Shape).Idx) :
    (Cert.ReferenceIdeal.Gen.dats m' 0 c).arrAt 8 Cert.ReferenceIdeal.cfg0.N i = Cert.KernelIdeal.Value.G8 m c i := by
  refine (congrFun (Cert.ReferenceIdeal.Result.final8 m' c) i).trans ?_
  idx_vars i
  refine (Cert.ReferenceIdeal.Result.result8 m' c _ _ _).trans ?_
  refine Eq.trans ?_ (Cert.KernelIdeal.Result.result8 m c _ _ _).symm
  rw [h0]
  exact (code_eq _ hx _ _ _ _).symm

include h0 h1 h2 h3 hx in
theorem normed (i : (⟨3, ![8, 4096, 512]⟩ : Shape).Idx) :
    (Cert.ReferenceIdeal.Gen.dats m' 0 c).arrAt 6 Cert.ReferenceIdeal.cfg0.N i = Cert.KernelIdeal.Value.G6 m c i := by
  refine (congrFun (Cert.ReferenceIdeal.Result.final6 m' c) i).trans ?_
  idx_vars i
  refine (Cert.ReferenceIdeal.Result.result6 m' c _ _ _).trans ?_
  refine Eq.trans ?_ (Cert.KernelIdeal.Result.result6 m c _ _ _).symm
  rw [h0, h1, h2, h3, mean_eq]
  simp only [dot_eq _ hx]

include h0 h1 h2 h4 hx in
theorem rotated (i : (⟨3, ![8, 64, 4096]⟩ : Shape).Idx)
    (h : ∀ b n T, i = ix3 b n T → Cert.KernelIdeal.Outs.psn m c (ix2 b T) = 0#32) :
    (Cert.ReferenceIdeal.Gen.dats m' 0 c).arrAt 7 Cert.ReferenceIdeal.cfg0.N i = Cert.KernelIdeal.Value.G7 m c i := by
  refine (congrFun (Cert.ReferenceIdeal.Result.final7 m' c) i).trans ?_
  idx_vars i
  have hp := h _ _ _ rfl
  refine (Cert.ReferenceIdeal.Result.result7 m' c _ _ _ (by rw [h4]; exact hp)).trans ?_
  refine Eq.trans ?_ (Cert.KernelIdeal.Result.result7 m c _ _ _ hp).symm
  rw [h0, h1, h2]
  exact (dot_eq _ hx _ _ _ _ _).symm

end Cert.Equal
-- ==== Proof.lean ====
import proofs.«01_k».proof.Defs
import proofs.«01_k».proof.Proof.Gen.Kernel.Frame
import proofs.«01_k».proof.Proof.Gen.KernelIdeal.Frame
import proofs.«01_k».proof.Proof.Gen.KernelIdeal.Value
import proofs.«01_k».proof.Proof.Gen.ReferenceIdeal.Value
import proofs.«01_k».proof.Proof.Gen.Pre_finite
import proofs.«01_k».proof.Proof.Gen.On_claimed
import proofs.«01_k».proof.Proof.Equal
import Idealize.ShloMosaic.Lib.Bf16PairInverse
import Idealize.ShloMosaic.Lib.Claim

/-!
The claim. The frames are the programs' generated runs. The idealization's sites are the rules' statements at their
shapes. The algebraic claim joins the two programs' result arrays, computed index by index.
-/

set_option maxRecDepth 16384

noncomputable section

namespace Cert.Proof

open Idealize.ShloMosaic Idealize.SL.Sem Idealize.ShloMosaic.TcCoe

theorem preserves : Cert.preserves_Kernel_KernelIdeal :=
  ⟨IdealRules.bf16_pair.bufferStatement _ _, IdealRules.bf16_pair.bufferStatement _ _,
    IdealRules.bf16_pair.statement _ _, IdealRules.bf16_pair.statement _ _, IdealRules.bf16_pair.statement _ _,
    IdealRules.bf16_pair.statement _ _, IdealRules.bf16_pair.statement _ _, IdealRules.bf16_pair.statement _ _,
    IdealRules.bf16_pair.statement _ _, IdealRules.bf16_pair.statement _ _, IdealRules.bf16_pack.statement _⟩

theorem algebraic : Cert.algebraic_KernelIdeal_ReferenceIdeal_on_claimed_pre_finite := by
  intro m g m' g' hpre hag
  have hx : ∀ c, Cert.Match.Finite (Cert.KernelIdeal.Outs.hid m c) := fun c b T k =>
    Cert.Match.finite_at _ _ _ _ _ (hpre c) (ix3 b T k)
  refine ⟨fun c => Cert.KernelIdeal.Value.G6 m c, fun c => Cert.KernelIdeal.Value.G7 m c,
    fun c => Cert.KernelIdeal.Value.G8 m c, fun c => Cert.KernelIdeal.Value.G9 m c, ?_, ?_⟩
  · refine θ_run_mono (Cert.KernelIdeal.Value.run m g) ?_
    intro r hr c
    obtain ⟨h6, h7, h8, h9, hk⟩ := hr c
    exact ⟨fun i _ => congrFun h6 i, fun i _ => congrFun h7 i, fun i _ => congrFun h8 i, fun i _ => congrFun h9 i, hk⟩
  · refine θ_run_mono (Cert.ReferenceIdeal.Value.run_blocks m' g') ?_
    intro r hr c
    obtain ⟨h6, h7, h8, h9, hk⟩ := hr c
    obtain ⟨a0, a1, a2, a3, a4⟩ := hag c
    refine ⟨fun i _ => ?_, fun i hi => ?_, fun i _ => ?_, fun i _ => ?_, hk⟩
    · exact (congrFun h6 i).trans (Cert.Equal.normed m m' c a0 a1 a2 a3 (hx c) i)
    · exact (congrFun h7 i).trans (Cert.Equal.rotated m m' c a0 a1 a2 a4 (hx c) i fun b n T e =>
        Cert.Equal.position_at _ _ _ _ _ b n T (e ▸ hi))
    · exact (congrFun h8 i).trans (Cert.Equal.codes m m' c a0 (hx c) i)
    · exact (congrFun h9 i).trans (Cert.Equal.scales m m' c a0 (hx c) i)

theorem claim : Cert.Claim :=
  ⟨Cert.Kernel.Gen.facts, Cert.KernelIdeal.Gen.facts, Cert.ReferenceIdeal.Gen.facts, Cert.Pre_finite.Gen.facts,
    Cert.On_claimed.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, preserves, algebraic⟩

end Cert.Proof
